-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_domain [hPre_in_domain : Cert.Pre_in_domain.Facts] (m : (ℓ : Loc Cert.KernelIdeal.nD Cert.KernelIdeal.τ Cert.KernelIdeal.sig) → Buf (Elt Ideal) ℓ) : Prop :=
  ∀ c : Dev Cert.KernelIdeal.nD,
    (Cert.Pre_in_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_domain [hPre_in_domain : Cert.Pre_in_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_in_domain [hKernelIdeal : Cert.KernelIdeal.Facts] [hPre_in_domain : Cert.Pre_in_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_domain m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_in_domain [hReferenceIdeal : Cert.ReferenceIdeal.Facts] [hPre_in_domain : Cert.Pre_in_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_domain m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  IdealRules.named_const.Statement Cert.KernelIdeal.κ "mask" .f32 0xF149F2CA#32 ⊥
  ∧ IdealRules.named_const.Statement Cert.KernelIdeal.κ "log2e" .f32 0x3FB8AA3B#32 (((Real.log 2)⁻¹ : ℝ) : EReal)
  ∧ IdealRules.named_const.Statement Cert.KernelIdeal.κ "neg_half_log2e" .f32 0xBF38AA3B#32 ((-((2 * (Real.log 2))⁻¹) : ℝ) : EReal)
  ∧ IdealRules.named_const.Statement Cert.KernelIdeal.κ "neg_log2e" .f32 0xBFB8AA3B#32 ((-((Real.log 2)⁻¹) : ℝ) : EReal)

def algebraic_KernelIdeal_ReferenceIdeal_pre_in_domain [hKernelIdeal : Cert.KernelIdeal.Facts] [hReferenceIdeal : Cert.ReferenceIdeal.Facts] [hPre_in_domain : Cert.Pre_in_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_domain m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v104) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_in_domain : Cert.Pre_in_domain.Facts),
    quiescent_Kernel (hKernel := hKernel)
    ∧ quiescent_KernelIdeal (hKernelIdeal := hKernelIdeal)
    ∧ quiescent_KernelIdeal_pre_in_domain (hKernelIdeal := hKernelIdeal) (hPre_in_domain := hPre_in_domain)
    ∧ quiescent_ReferenceIdeal (hReferenceIdeal := hReferenceIdeal)
    ∧ quiescent_ReferenceIdeal_pre_in_domain (hReferenceIdeal := hReferenceIdeal) (hPre_in_domain := hPre_in_domain)
    ∧ preserves_Kernel_KernelIdeal
    ∧ algebraic_KernelIdeal_ReferenceIdeal_pre_in_domain (hKernelIdeal := hKernelIdeal) (hReferenceIdeal := hReferenceIdeal) (hPre_in_domain := hPre_in_domain)
-- ==== Pre_in_domain.lean ====
abbrev S1x8192x3 : Shape := ⟨3, ![1, 8192, 3]⟩
abbrev S1x2048x3 : Shape := ⟨3, ![1, 2048, 3]⟩
abbrev S1x2048 : Shape := ⟨2, ![1, 2048]⟩
abbrev S1x2048x18 : Shape := ⟨3, ![1, 2048, 18]⟩
abbrev S1x2048x3x3 : Shape := ⟨4, ![1, 2048, 3, 3]⟩
abbrev S_ : Shape := ⟨0, ![]⟩

class Facts : Prop where
  bcast_S_S1x8192x3 : S_.BroadcastsInDim S1x8192x3 (![] : Fin 0 → Fin S1x8192x3.rank)
  reducesTo_S1x8192x3_S_d0_1_2 : S1x8192x3.ReducesTo [0, 1, 2] S_
  h_S_ : 0 < S_.numel
  bcast_S_S1x2048x3 : S_.BroadcastsInDim S1x2048x3 (![] : Fin 0 → Fin S1x2048x3.rank)
  reducesTo_S1x2048x3_S_d0_1_2 : S1x2048x3.ReducesTo [0, 1, 2] S_
  bcast_S_S1x2048x3x3 : S_.BroadcastsInDim S1x2048x3x3 (![] : Fin 0 → Fin S1x2048x3x3.rank)
  reducesTo_S1x2048x3x3_S_d0_1_2_3 : S1x2048x3x3.ReducesTo [0, 1, 2, 3] S_
  bcast_S_S1x2048 : S_.BroadcastsInDim S1x2048 (![] : Fin 0 → Fin S1x2048.rank)
  reducesTo_S1x2048_S_d0_1 : S1x2048.ReducesTo [0, 1] S_

variable [Facts]

def fn_part1 {F : FTy → Type} [FloatOps F] (main_arg2 : FVec F S1x2048 .f32) (main_arg5 : FVec F S1x2048x3x3 .f32) (main_v12 : IVec S_ 1) (main_v14 : IVec S1x2048x3x3 1) (main_v15 : FVec F S1x2048x3x3 .f32) : IVec S_ 1 :=
  let main_v16 : IVec S1x2048x3x3 1 := cmpf .olt main_arg5 main_v15
  let main_v17 : IVec S1x2048x3x3 1 := andi main_v14 main_v16
  let main_c_6 : IVec S_ 1 := constantI S_ 1 1#1
  let main_v18 : IVec S_ 1 := (fun x v => Host.reduce IntOp.andi x v reducesTo_S1x2048x3x3_S_d0_1_2_3 h_S_) main_v17 main_c_6
  let main_v19 : IVec S_ 1 := andi main_v12 main_v18
  let main_cst_7 : FVec F S_ .f32 := constant S_ .f32 0x0DA24260#32
  let main_v20 : FVec F S1x2048 .f32 := broadcastInDim S1x2048 ![] bcast_S_S1x2048 main_cst_7
  let main_v21 : IVec S1x2048 1 := cmpf .oge main_arg2 main_v20
  let main_c_8 : IVec S_ 1 := constantI S_ 1 1#1
  let main_v22 : IVec S_ 1 := (fun x v => Host.reduce IntOp.andi x v reducesTo_S1x2048_S_d0_1 h_S_) main_v21 main_c_8
  let main_v23 : IVec S_ 1 := andi main_v19 main_v22
  main_v23

def fn {F : FTy → Type} [FloatOps F] (main_arg0 : FVec F S1x8192x3 .f32) (main_arg1 : FVec F S1x2048x3 .f32) (main_arg2 : FVec F S1x2048 .f32) (main_arg3 : FVec F S1x2048x18 .f32) (main_arg4 : FVec F S1x2048x3 .f32) (main_arg5 : FVec F S1x2048x3x3 .f32) : IVec S_ 1 :=
  let main_cst : FVec F S_ .f32 := constant S_ .f32 0x00000000#32
  let main_v0 : FVec F S1x8192x3 .f32 := broadcastInDim S1x8192x3 ![] bcast_S_S1x8192x3 main_cst
  let main_v1 : IVec S1x8192x3 1 := cmpf .oge main_arg0 main_v0
  let main_cst_0 : FVec F S_ .f32 := constant S_ .f32 0x3F800000#32
  let main_v2 : FVec F S1x8192x3 .f32 := broadcastInDim S1x8192x3 ![] bcast_S_S1x8192x3 main_cst_0
  let main_v3 : IVec S1x8192x3 1 := cmpf .olt main_arg0 main_v2
  let main_v4 : IVec S1x8192x3 1 := andi main_v1 main_v3
  let main_c : IVec S_ 1 := constantI S_ 1 1#1
  let main_v5 : IVec S_ 1 := (fun x v => Host.reduce IntOp.andi x v reducesTo_S1x8192x3_S_d0_1_2 h_S_) main_v4 main_c
  let main_cst_1 : FVec F S_ .f32 := constant S_ .f32 0xFF800000#32
  let main_v6 : FVec F S1x2048x3 .f32 := broadcastInDim S1x2048x3 ![] bcast_S_S1x2048x3 main_cst_1
  let main_v7 : IVec S1x2048x3 1 := cmpf .ogt main_arg1 main_v6
  let main_cst_2 : FVec F S_ .f32 := constant S_ .f32 0x7F800000#32
  let main_v8 : FVec F S1x2048x3 .f32 := broadcastInDim S1x2048x3 ![] bcast_S_S1x2048x3 main_cst_2
  let main_v9 : IVec S1x2048x3 1 := cmpf .olt main_arg1 main_v8
  let main_v10 : IVec S1x2048x3 1 := andi main_v7 main_v9
  let main_c_3 : IVec S_ 1 := constantI S_ 1 1#1
  let main_v11 : IVec S_ 1 := (fun x v => Host.reduce IntOp.andi x v reducesTo_S1x2048x3_S_d0_1_2 h_S_) main_v10 main_c_3
  let main_v12 : IVec S_ 1 := andi main_v5 main_v11
  let main_cst_4 : FVec F S_ .f32 := constant S_ .f32 0xFF800000#32
  let main_v13 : FVec F S1x2048x3x3 .f32 := broadcastInDim S1x2048x3x3 ![] bcast_S_S1x2048x3x3 main_cst_4
  let main_v14 : IVec S1x2048x3x3 1 := cmpf .ogt main_arg5 main_v13
  let main_cst_5 : FVec F S_ .f32 := constant S_ .f32 0x7F800000#32
  let main_v15 : FVec F S1x2048x3x3 .f32 := broadcastInDim S1x2048x3x3 ![] bcast_S_S1x2048x3x3 main_cst_5
  fn_part1 (F := F) main_arg2 main_arg5 main_v12 main_v14 main_v15
-- ==== Kernel.lean ====
abbrev S1x8192x3 : Shape := ⟨3, ![1, 8192, 3]⟩
abbrev S1x2048x3 : Shape := ⟨3, ![1, 2048, 3]⟩
abbrev S1x2048 : Shape := ⟨2, ![1, 2048]⟩
abbrev S1x2048x18 : Shape := ⟨3, ![1, 2048, 18]⟩
abbrev S1x2048x3x3 : Shape := ⟨4, ![1, 2048, 3, 3]⟩
abbrev S6 : Shape := ⟨1, ![6]⟩
abbrev S8192x3 : Shape := ⟨2, ![8192, 3]⟩
abbrev S2048x3 : Shape := ⟨2, ![2048, 3]⟩
abbrev S3x2048 : Shape := ⟨2, ![3, 2048]⟩
abbrev S2048x18 : Shape := ⟨2, ![2048, 18]⟩
abbrev S2048x3x3 : Shape := ⟨3, ![2048, 3, 3]⟩
abbrev S2048x9 : Shape := ⟨2, ![2048, 9]⟩
abbrev S_ : Shape := ⟨0, ![]⟩
abbrev S6x1 : Shape := ⟨2, ![6, 1]⟩
abbrev S2048x6 : Shape := ⟨2, ![2048, 6]⟩
abbrev S6x2048 : Shape := ⟨2, ![6, 2048]⟩
abbrev S8192x18 : Shape := ⟨2, ![8192, 18]⟩
abbrev S2048x1 : Shape := ⟨2, ![2048, 1]⟩
abbrev S2048x16 : Shape := ⟨2, ![2048, 16]⟩
abbrev S2048 : Shape := ⟨1, ![2048]⟩
abbrev S16x2048 : Shape := ⟨2, ![16, 2048]⟩
abbrev S2048x2048 : Shape := ⟨2, ![2048, 2048]⟩

abbrev nBuf : Space → Nat
  | .hbm => 24
  | .vmem => 9
  | .smem => 0
  | _ => 0

abbrev bufTy : (tb : Table) → Fin (tcTables nBuf tb) → BufTy
  | .hbm, ⟨0, _⟩ => ⟨S1x8192x3, .f32⟩
  | .hbm, ⟨1, _⟩ => ⟨S1x2048x3, .f32⟩
  | .hbm, ⟨2, _⟩ => ⟨S1x2048, .f32⟩
  | .hbm, ⟨3, _⟩ => ⟨S1x2048x18, .f32⟩
  | .hbm, ⟨4, _⟩ => ⟨S1x2048x3, .f32⟩
  | .hbm, ⟨5, _⟩ => ⟨S1x2048x3x3, .f32⟩
  | .hbm, ⟨6, _⟩ => ⟨S6, .i32⟩
  | .hbm, ⟨7, _⟩ => ⟨S6, .i1⟩
  | .hbm, ⟨8, _⟩ => ⟨S8192x3, .f32⟩
  | .hbm, ⟨9, _⟩ => ⟨S2048x3, .f32⟩
  | .hbm, ⟨10, _⟩ => ⟨S3x2048, .f32⟩
  | .hbm, ⟨11, _⟩ => ⟨S2048x18, .f32⟩
  | .hbm, ⟨12, _⟩ => ⟨S2048x3, .f32⟩
  | .hbm, ⟨13, _⟩ => ⟨S3x2048, .f32⟩
  | .hbm, ⟨14, _⟩ => ⟨S2048x3x3, .f32⟩
  | .hbm, ⟨15, _⟩ => ⟨S2048x9, .f32⟩
  | .hbm, ⟨16, _⟩ => ⟨S_, .i32⟩
  | .hbm, ⟨17, _⟩ => ⟨S6, .i32⟩
  | .hbm, ⟨18, _⟩ => ⟨S6, .i32⟩
  | .hbm, ⟨19, _⟩ => ⟨S6, .i32⟩
  | .hbm, ⟨20, _⟩ => ⟨S6x1, .i32⟩
  | .hbm, ⟨21, _⟩ => ⟨S2048x6, .f32⟩
  | .hbm, ⟨22, _⟩ => ⟨S6x2048, .f32⟩
  | .hbm, ⟨23, _⟩ => ⟨S8192x18, .f32⟩
  | .local _ .vmem, ⟨0, _⟩ => ⟨S2048x3, .f32⟩
  | .local _ .vmem, ⟨1, _⟩ => ⟨S2048x3, .f32⟩
  | .local _ .vmem, ⟨2, _⟩ => ⟨S3x2048, .f32⟩
  | .local _ .vmem, ⟨3, _⟩ => ⟨S1x2048, .f32⟩
  | .local _ .vmem, ⟨4, _⟩ => ⟨S2048x18, .f32⟩
  | .local _ .vmem, ⟨5, _⟩ => ⟨S3x2048, .f32⟩
  | .local _ .vmem, ⟨6, _⟩ => ⟨S6x2048, .f32⟩
  | .local _ .vmem, ⟨7, _⟩ => ⟨S2048x18, .f32⟩
  | .local _ .vmem, ⟨8, _⟩ => ⟨S2048x18, .f32⟩
  | _, _ => ⟨S1x8192x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_c : Ref sig .tc := ⟨.hbm, 6, rfl⟩
abbrev main_call0_c_0 : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_v6 : Ref sig .tc := ⟨.hbm, 14, rfl⟩
abbrev main_call0_v7 : Ref sig .tc := ⟨.hbm, 15, rfl⟩
abbrev main_call0_c_1 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_v12 : Ref sig .tc := ⟨.hbm, 21, rfl⟩
abbrev main_call0_v13 : Ref sig .tc := ⟨.hbm, 22, rfl⟩
abbrev main_v0 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x18 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S3x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S6x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2048x18 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== KernelIdeal.lean ====
variable {F : FTy → Type} [FloatOps F] [Named F]
def κ : String → Option EReal := fun
  | "log2e" => some (((Real.log 2)⁻¹ : ℝ) : EReal)
  | "mask" => some ⊥
  | "neg_half_log2e" => some ((-((2 * (Real.log 2))⁻¹) : ℝ) : EReal)
  | "neg_log2e" => some ((-((Real.log 2)⁻¹) : ℝ) : EReal)
  | _ => none
-- ==== ReferenceIdeal.lean ====
abbrev S1x8192x3 : Shape := ⟨3, ![1, 8192, 3]⟩
abbrev S1x2048x3 : Shape := ⟨3, ![1, 2048, 3]⟩
abbrev S1x2048 : Shape := ⟨2, ![1, 2048]⟩
abbrev S1x2048x18 : Shape := ⟨3, ![1, 2048, 18]⟩
abbrev S1x2048x3x3 : Shape := ⟨4, ![1, 2048, 3, 3]⟩
abbrev S3 : Shape := ⟨1, ![3]⟩
abbrev S6 : Shape := ⟨1, ![6]⟩
abbrev S8192x3 : Shape := ⟨2, ![8192, 3]⟩
abbrev S2048x3 : Shape := ⟨2, ![2048, 3]⟩
abbrev S2048 : Shape := ⟨1, ![2048]⟩
abbrev S2048x18 : Shape := ⟨2, ![2048, 18]⟩
abbrev S2048x3x3 : Shape := ⟨3, ![2048, 3, 3]⟩
abbrev S1x3 : Shape := ⟨2, ![1, 3]⟩
abbrev S_ : Shape := ⟨0, ![]⟩
abbrev S2048x9 : Shape := ⟨2, ![2048, 9]⟩
abbrev S6x1 : Shape := ⟨2, ![6, 1]⟩
abbrev S2048x6 : Shape := ⟨2, ![2048, 6]⟩
abbrev S8192x1x3 : Shape := ⟨3, ![8192, 1, 3]⟩
abbrev S8192x2048x3 : Shape := ⟨3, ![8192, 2048, 3]⟩
abbrev S1x2048x1 : Shape := ⟨3, ![1, 2048, 1]⟩
abbrev S8192x2048 : Shape := ⟨2, ![8192, 2048]⟩
abbrev S8192x2048x1 : Shape := ⟨3, ![8192, 2048, 1]⟩
abbrev S2048x1 : Shape := ⟨2, ![2048, 1]⟩
abbrev S8192x18 : Shape := ⟨2, ![8192, 18]⟩

abbrev nBuf : Space → Nat
  | .hbm => 124
  | .vmem => 0
  | .smem => 0
  | _ => 0

abbrev bufTy : (tb : Table) → Fin (tcTables nBuf tb) → BufTy
  | .hbm, ⟨0, _⟩ => ⟨S1x8192x3, .f32⟩
  | .hbm, ⟨1, _⟩ => ⟨S1x2048x3, .f32⟩
  | .hbm, ⟨2, _⟩ => ⟨S1x2048, .f32⟩
  | .hbm, ⟨3, _⟩ => ⟨S1x2048x18, .f32⟩
  | .hbm, ⟨4, _⟩ => ⟨S1x2048x3, .f32⟩
  | .hbm, ⟨5, _⟩ => ⟨S1x2048x3x3, .f32⟩
  | .hbm, ⟨6, _⟩ => ⟨S3, .f32⟩
  | .hbm, ⟨7, _⟩ => ⟨S6, .i32⟩
  | .hbm, ⟨8, _⟩ => ⟨S8192x3, .f32⟩
  | .hbm, ⟨9, _⟩ => ⟨S2048x3, .f32⟩
  | .hbm, ⟨10, _⟩ => ⟨S2048, .f32⟩
  | .hbm, ⟨11, _⟩ => ⟨S2048x18, .f32⟩
  | .hbm, ⟨12, _⟩ => ⟨S2048x3, .f32⟩
  | .hbm, ⟨13, _⟩ => ⟨S2048x3x3, .f32⟩
  | .hbm, ⟨14, _⟩ => ⟨S1x3, .f32⟩
  | .hbm, ⟨15, _⟩ => ⟨S8192x3, .f32⟩
  | .hbm, ⟨16, _⟩ => ⟨S8192x3, .f32⟩
  | .hbm, ⟨17, _⟩ => ⟨S_, .f32⟩
  | .hbm, ⟨18, _⟩ => ⟨S8192x3, .f32⟩
  | .hbm, ⟨19, _⟩ => ⟨S8192x3, .f32⟩
  | .hbm, ⟨20, _⟩ => ⟨S8192x3, .i32⟩
  | .hbm, ⟨21, _⟩ => ⟨S2048x3, .f32⟩
  | .hbm, ⟨22, _⟩ => ⟨S2048x3, .f32⟩
  | .hbm, ⟨23, _⟩ => ⟨S_, .f32⟩
  | .hbm, ⟨24, _⟩ => ⟨S2048x3, .f32⟩
  | .hbm, ⟨25, _⟩ => ⟨S2048x3, .f32⟩
  | .hbm, ⟨26, _⟩ => ⟨S2048x3, .i32⟩
  | .hbm, ⟨27, _⟩ => ⟨S_, .f32⟩
  | .hbm, ⟨28, _⟩ => ⟨S2048, .f32⟩
  | .hbm, ⟨29, _⟩ => ⟨S_, .f32⟩
  | .hbm, ⟨30, _⟩ => ⟨S2048, .f32⟩
  | .hbm, ⟨31, _⟩ => ⟨S2048, .f32⟩
  | .hbm, ⟨32, _⟩ => ⟨S_, .f32⟩
  | .hbm, ⟨33, _⟩ => ⟨S2048, .f32⟩
  | .hbm, ⟨34, _⟩ => ⟨S2048, .f32⟩
  | .hbm, ⟨35, _⟩ => ⟨S2048, .f32⟩
  | .hbm, ⟨36, _⟩ => ⟨S2048, .i32⟩
  | .hbm, ⟨37, _⟩ => ⟨S2048x9, .f32⟩
  | .hbm, ⟨38, _⟩ => ⟨S_, .i32⟩
  | .hbm, ⟨39, _⟩ => ⟨S6, .i32⟩
  | .hbm, ⟨40, _⟩ => ⟨S6, .i1⟩
  | .hbm, ⟨41, _⟩ => ⟨S_, .i32⟩
  | .hbm, ⟨42, _⟩ => ⟨S6, .i32⟩
  | .hbm, ⟨43, _⟩ => ⟨S6, .i32⟩
  | .hbm, ⟨44, _⟩ => ⟨S6, .i32⟩
  | .hbm, ⟨45, _⟩ => ⟨S6x1, .i32⟩
  | .hbm, ⟨46, _⟩ => ⟨S2048x6, .f32⟩
  | .hbm, ⟨47, _⟩ => ⟨S8192x1x3, .f32⟩
  | .hbm, ⟨48, _⟩ => ⟨S1x2048x3, .f32⟩
  | .hbm, ⟨49, _⟩ => ⟨S8192x2048x3, .f32⟩
  | .hbm, ⟨50, _⟩ => ⟨S8192x2048x3, .f32⟩
  | .hbm, ⟨51, _⟩ => ⟨S8192x2048x3, .f32⟩
  | .hbm, ⟨52, _⟩ => ⟨S8192x1x3, .i32⟩
  | .hbm, ⟨53, _⟩ => ⟨S1x2048x3, .i32⟩
  | .hbm, ⟨54, _⟩ => ⟨S8192x2048x3, .i32⟩
  | .hbm, ⟨55, _⟩ => ⟨S8192x2048x3, .i32⟩
  | .hbm, ⟨56, _⟩ => ⟨S8192x2048x3, .i32⟩
  | .hbm, ⟨57, _⟩ => ⟨S8192x2048x3, .i32⟩
  | .hbm, ⟨58, _⟩ => ⟨S1x2048x1, .i32⟩
  | .hbm, ⟨59, _⟩ => ⟨S8192x2048x3, .i32⟩
  | .hbm, ⟨60, _⟩ => ⟨S8192x2048x3, .i1⟩
  | .hbm, ⟨61, _⟩ => ⟨S_, .i1⟩
  | .hbm, ⟨62, _⟩ => ⟨S8192x2048, .i1⟩
  | .hbm, ⟨63, _⟩ => ⟨S8192x2048x1, .f32⟩
  | .hbm, ⟨64, _⟩ => ⟨S8192x2048, .f32⟩
  | .hbm, ⟨65, _⟩ => ⟨S8192x2048x1, .f32⟩
  | .hbm, ⟨66, _⟩ => ⟨S8192x2048, .f32⟩
  | .hbm, ⟨67, _⟩ => ⟨S8192x2048x1, .f32⟩
  | .hbm, ⟨68, _⟩ => ⟨S8192x2048, .f32⟩
  | .hbm, ⟨69, _⟩ => ⟨S2048x1, .f32⟩
  | .hbm, ⟨70, _⟩ => ⟨S2048, .f32⟩
  | .hbm, ⟨71, _⟩ => ⟨S1x2048, .f32⟩
  | .hbm, ⟨72, _⟩ => ⟨S2048x1, .f32⟩
  | .hbm, ⟨73, _⟩ => ⟨S2048, .f32⟩
  | .hbm, ⟨74, _⟩ => ⟨S1x2048, .f32⟩
  | .hbm, ⟨75, _⟩ => ⟨S2048x1, .f32⟩
  | .hbm, ⟨76, _⟩ => ⟨S2048, .f32⟩
  | .hbm, ⟨77, _⟩ => ⟨S1x2048, .f32⟩
  | .hbm, ⟨78, _⟩ => ⟨S2048x1, .f32⟩
  | .hbm, ⟨79, _⟩ => ⟨S2048, .f32⟩
  | .hbm, ⟨80, _⟩ => ⟨S1x2048, .f32⟩
  | .hbm, ⟨81, _⟩ => ⟨S2048x1, .f32⟩
  | .hbm, ⟨82, _⟩ => ⟨S2048, .f32⟩
  | .hbm, ⟨83, _⟩ => ⟨S1x2048, .f32⟩
  | .hbm, ⟨84, _⟩ => ⟨S2048x1, .f32⟩
  | .hbm, ⟨85, _⟩ => ⟨S2048, .f32⟩
  | .hbm, ⟨86, _⟩ => ⟨S1x2048, .f32⟩
  | .hbm, ⟨87, _⟩ => ⟨S8192x2048, .f32⟩
  | .hbm, ⟨88, _⟩ => ⟨S8192x2048, .f32⟩
  | .hbm, ⟨89, _⟩ => ⟨S8192x2048, .f32⟩
  | .hbm, ⟨90, _⟩ => ⟨S8192x2048, .f32⟩
  | .hbm, ⟨91, _⟩ => ⟨S8192x2048, .f32⟩
  | .hbm, ⟨92, _⟩ => ⟨S8192x2048, .f32⟩
  | .hbm, ⟨93, _⟩ => ⟨S8192x2048, .f32⟩
  | .hbm, ⟨94, _⟩ => ⟨S8192x2048, .f32⟩
  | .hbm, ⟨95, _⟩ => ⟨S8192x2048, .f32⟩
  | .hbm, ⟨96, _⟩ => ⟨S8192x2048, .f32⟩
  | .hbm, ⟨97, _⟩ => ⟨S8192x2048, .f32⟩
  | .hbm, ⟨98, _⟩ => ⟨S8192x2048, .f32⟩
  | .hbm, ⟨99, _⟩ => ⟨S8192x2048, .f32⟩
  | .hbm, ⟨100, _⟩ => ⟨S8192x2048, .f32⟩
  | .hbm, ⟨101, _⟩ => ⟨S8192x2048, .f32⟩
  | .hbm, ⟨102, _⟩ => ⟨S8192x2048, .f32⟩
  | .hbm, ⟨103, _⟩ => ⟨S8192x2048, .f32⟩
  | .hbm, ⟨104, _⟩ => ⟨S8192x2048, .f32⟩
  | .hbm, ⟨105, _⟩ => ⟨S8192x2048, .f32⟩
  | .hbm, ⟨106, _⟩ => ⟨S8192x2048, .f32⟩
  | .hbm, ⟨107, _⟩ => ⟨S8192x2048, .f32⟩
  | .hbm, ⟨108, _⟩ => ⟨S8192x2048, .f32⟩
  | .hbm, ⟨109, _⟩ => ⟨S_, .f32⟩
  | .hbm, ⟨110, _⟩ => ⟨S8192x2048, .f32⟩
  | .hbm, ⟨111, _⟩ => ⟨S8192x2048, .f32⟩
  | .hbm, ⟨112, _⟩ => ⟨S8192x2048, .f32⟩
  | .hbm, ⟨113, _⟩ => ⟨S1x2048, .f32⟩
  | .hbm, ⟨114, _⟩ => ⟨S_, .f32⟩
  | .hbm, ⟨115, _⟩ => ⟨S8192x2048, .f32⟩
  | .hbm, ⟨116, _⟩ => ⟨S8192x2048, .f32⟩
  | .hbm, ⟨117, _⟩ => ⟨S8192x2048, .f32⟩
  | .hbm, ⟨118, _⟩ => ⟨S8192x2048, .f32⟩
  | .hbm, ⟨119, _⟩ => ⟨S8192x2048, .f32⟩
  | .hbm, ⟨120, _⟩ => ⟨S_, .f32⟩
  | .hbm, ⟨121, _⟩ => ⟨S8192x2048, .f32⟩
  | .hbm, ⟨122, _⟩ => ⟨S8192x2048, .f32⟩
  | .hbm, ⟨123, _⟩ => ⟨S8192x18, .f32⟩
  | _, _ => ⟨S1x8192x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_2 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_cst_4 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_c_5 : Ref sig .tc := ⟨.hbm, 38, rfl⟩
abbrev main_v25 : Ref sig .tc := ⟨.hbm, 39, rfl⟩
abbrev main_v26 : Ref sig .tc := ⟨.hbm, 40, rfl⟩
abbrev main_c_6 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_c_7 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩
abbrev main_v84 : Ref sig .tc := ⟨.hbm, 100, rfl⟩
abbrev main_v85 : Ref sig .tc := ⟨.hbm, 101, rfl⟩
abbrev main_v86 : Ref sig .tc := ⟨.hbm, 102, rfl⟩
abbrev main_v87 : Ref sig .tc := ⟨.hbm, 103, rfl⟩
abbrev main_v88 : Ref sig .tc := ⟨.hbm, 104, rfl⟩
abbrev main_v89 : Ref sig .tc := ⟨.hbm, 105, rfl⟩
abbrev main_v90 : Ref sig .tc := ⟨.hbm, 106, rfl⟩
abbrev main_v91 : Ref sig .tc := ⟨.hbm, 107, rfl⟩
abbrev main_v92 : Ref sig .tc := ⟨.hbm, 108, rfl⟩
abbrev main_cst_8 : Ref sig .tc := ⟨.hbm, 109, rfl⟩
abbrev main_v93 : Ref sig .tc := ⟨.hbm, 110, rfl⟩
abbrev main_v94 : Ref sig .tc := ⟨.hbm, 111, rfl⟩
abbrev main_v95 : Ref sig .tc := ⟨.hbm, 112, rfl⟩
abbrev main_v96 : Ref sig .tc := ⟨.hbm, 113, rfl⟩
abbrev main_cst_9 : Ref sig .tc := ⟨.hbm, 114, rfl⟩
abbrev main_v97 : Ref sig .tc := ⟨.hbm, 115, rfl⟩
abbrev main_v98 : Ref sig .tc := ⟨.hbm, 116, rfl⟩
abbrev main_v99 : Ref sig .tc := ⟨.hbm, 117, rfl⟩
abbrev main_v100 : Ref sig .tc := ⟨.hbm, 118, rfl⟩
abbrev main_v101 : Ref sig .tc := ⟨.hbm, 119, rfl⟩
abbrev main_cst_10 : Ref sig .tc := ⟨.hbm, 120, rfl⟩
abbrev main_v102 : Ref sig .tc := ⟨.hbm, 121, rfl⟩
abbrev main_v103 : Ref sig .tc := ⟨.hbm, 122, rfl⟩
abbrev main_v104 : Ref sig .tc := ⟨.hbm, 123, rfl⟩

abbrev nD : Nat := 1
abbrev τ : Topo := Topo.v7x

variable {F : FTy → Type} [FloatOps F]
-- ==== Proof.Weight.lean ====
module

public import Idealize.ShloMosaic.PureOps.Ideal
public import Idealize.ShloMosaic.PureOps.Ideal.Laws
public import Idealize.ShloMosaic.Lib.ValueIdx

/-! # The weight of one Gaussian at one point

Both programs give the Gaussian of mean `q`, opacity `o`, inverse covariance entries `g` (in the order xx, yy, zz, xy,
yz, xz) and scales `s` a weight at the point `p`, and sum the weights times the semantics over the Gaussians. The
reference computes the weight as it is written down (`refWeight`); the kernel as `2` to a product of sixteen features of
the point with sixteen coefficients of the Gaussian (`kerWeight`). This module states both over the extended reals and
proves them equal where the point lies in the unit cube, the mean and the covariances are finite and the opacity is at
least the kernel's floor. -/

@[expose] public section

noncomputable section

namespace Cert.Splat

open Idealize.ShloMosaic

/-! ## The constants -/

/-- `1 / ln 2`. -/
def log2e : EReal := (((Real.log 2)⁻¹ : ℝ) : EReal)
/-- `-1 / ln 2`. -/
def negLog2e : EReal := ((-((Real.log 2)⁻¹) : ℝ) : EReal)
/-- `-1 / (2 ln 2)`. -/
def negHalfLog2e : EReal := ((-((2 * Real.log 2)⁻¹) : ℝ) : EReal)
/-- The opacity's floor, the binary32 number nearest `1e-30`. -/
def floorOp : EReal := Ideal.ofBits .f32 0x0DA24260#32

theorem lit_neg50 : Ideal.ofBits .f32 0xC2480000#32 = ((-50 : ℝ) : EReal) := by
  simp [Ideal.ofBits, Ideal.ieee, -EReal.coe_mul]; norm_num
theorem lit_neg5 : Ideal.ofBits .f32 0xC0A00000#32 = ((-5 : ℝ) : EReal) := by
  simp [Ideal.ofBits, Ideal.ieee, -EReal.coe_mul]; norm_num
theorem lit_half : Ideal.ofBits .f32 0x3F000000#32 = ((1 / 2 : ℝ) : EReal) := by
  simp [Ideal.ofBits, Ideal.ieee, -EReal.coe_mul]; norm_num
theorem lit_two : Ideal.ofBits .f32 0x40000000#32 = ((2 : ℝ) : EReal) := by
  simp [Ideal.ofBits, Ideal.ieee, -EReal.coe_mul]; norm_num
theorem lit_neg_half : Ideal.ofBits .f32 0xBF000000#32 = ((-(1 / 2) : ℝ) : EReal) := by
  simp [Ideal.ofBits, Ideal.ieee, -EReal.coe_mul]; norm_num
theorem lit_one : Ideal.ofBits .f32 0x3F800000#32 = ((1 : ℝ) : EReal) := by
  simp [Ideal.ofBits, Ideal.ieee, -EReal.coe_mul]; norm_num
theorem lit_bot : Ideal.ofBits .f32 0xFF800000#32 = ⊥ := by
  simp [Ideal.ofBits, Ideal.ieee]
theorem lit_top : Ideal.ofBits .f32 0x7F800000#32 = ⊤ := by
  simp [Ideal.ofBits, Ideal.ieee]
/-- The floor is a positive real. -/
theorem floorOp_pos : ∃ e : ℝ, 0 < e ∧ floorOp = (e : EReal) := by
  refine ⟨_, ?_, by unfold floorOp; simp only [Ideal.ofBits, Ideal.ieee]; rw [if_neg (by decide), if_neg (by decide)]⟩
  rw [if_neg (by decide)]
  positivity

/-! ## Cells, radii and the two weights -/

/-- The grid's corner, one binary32 word an axis: -50, -50, -5. -/
def lo : Fin 3 → BitVec 32 := ![0xC2480000#32, 0xC2480000#32, 0xC0A00000#32]

/-- The cell, of side one half from the corner `l`, in which a coordinate lies. -/
def cell (l : BitVec 32) (p : EReal) : BitVec 32 :=
  Ideal.fptosi 32 (Ideal.div (p - Ideal.ofBits .f32 l) (Ideal.ofBits .f32 0x3F000000#32))

/-- A Gaussian's radius in cells: three times its greatest scale over one half, rounded up. -/
def radius (s : Fin 3 → EReal) : BitVec 32 :=
  Ideal.fptosi 32 (Ideal.liftRound Int.ceil (Ideal.div
    (Finset.univ.fold max (Ideal.ofBits .f32 0xFF800000#32) s * Ideal.ofBits .f32 0x40400000#32)
    (Ideal.ofBits .f32 0x3F000000#32)))

/-- Whether two cells of one axis lie within a radius. -/
def near (a b r : BitVec 32) : BitVec 1 := IntOp.cmpi .sle (IntOp.absi (IntOp.subi a b)) r

/-- The quadratic form of the reference at the difference `d`. -/
def power (g : Fin 6 → EReal) (d : Fin 3 → EReal) : EReal :=
  g 0 * d 0 * d 0 + g 1 * d 1 * d 1 + g 2 * d 2 * d 2
    + Ideal.ofBits .f32 0x40000000#32 * (g 3 * d 0 * d 1 + g 4 * d 1 * d 2 + g 5 * d 0 * d 2)

/-- The reference's weight. -/
def refWeight (p q : Fin 3 → EReal) (o : EReal) (g : Fin 6 → EReal) (s : Fin 3 → EReal) : EReal :=
  Scalar.select (Finset.univ.fold IntOp.andi 1#1 fun k => near (cell (lo k) (p k)) (cell (lo k) (q k)) (radius s))
    (o * Ideal.exp (Ideal.ofBits .f32 0xBF000000#32 * power g fun k => p k - q k)) 0

/-- `1` where the coordinate's cell is `a`, else `0`. -/
def flag (l a : BitVec 32) (p : EReal) : EReal :=
  FloatOps.sitofp (F := Ideal) .f32 (BitVec.setWidth 32 (IntOp.cmpi .eq (cell l p) a))

/-- The penalty of a cell `a` of an axis: nothing within the radius of the mean's cell, else `-∞`. -/
def pen (a b r : BitVec 32) : EReal := Scalar.select (near a b r) 0 ⊥

/-- The sixteen features of a point. -/
def feat (p : Fin 3 → EReal) : Fin 16 → EReal :=
  ![p 0 * p 0, p 1 * p 1, p 2 * p 2, p 0 * p 1, p 1 * p 2, p 0 * p 2, p 0, p 1, p 2, 1,
    flag 0xC2480000#32 100#32 (p 0), 1 - flag 0xC2480000#32 100#32 (p 0),
    flag 0xC2480000#32 100#32 (p 1), 1 - flag 0xC2480000#32 100#32 (p 1),
    flag 0xC0A00000#32 10#32 (p 2), 1 - flag 0xC0A00000#32 10#32 (p 2)]

/-- The sixteen coefficients of a Gaussian. -/
def coef (q : Fin 3 → EReal) (o : EReal) (g : Fin 6 → EReal) (s : Fin 3 → EReal) : Fin 16 → EReal :=
  ![negHalfLog2e * g 0, negHalfLog2e * g 1, negHalfLog2e * g 2, negLog2e * g 3, negLog2e * g 4, negLog2e * g 5,
    log2e * (g 0 * q 0 + g 3 * q 1 + g 5 * q 2),
    log2e * (g 1 * q 1 + g 3 * q 0 + g 4 * q 2),
    log2e * (g 2 * q 2 + g 4 * q 1 + g 5 * q 0),
    negHalfLog2e * power g q + Ideal.log (max o floorOp) * log2e,
    pen 100#32 (cell 0xC2480000#32 (q 0)) (radius s), pen 101#32 (cell 0xC2480000#32 (q 0)) (radius s),
    pen 100#32 (cell 0xC2480000#32 (q 1)) (radius s), pen 101#32 (cell 0xC2480000#32 (q 1)) (radius s),
    pen 10#32 (cell 0xC0A00000#32 (q 2)) (radius s), pen 11#32 (cell 0xC0A00000#32 (q 2)) (radius s)]

/-- The kernel's weight: two to the features times the coefficients. -/
def kerWeight (p q : Fin 3 → EReal) (o : EReal) (g : Fin 6 → EReal) (s : Fin 3 → EReal) : EReal :=
  Ideal.exp2 (∑ k : Fin 16, feat p k * coef q o g s k)

/-! ## A point of the unit cube lies in one of two cells an axis -/

/-- The cell of a coordinate of `[0, 1)` over the corner `l`, minus an integer half `a / 2`: `a` or `a + 1`. -/
theorem cell_unit (l : BitVec 32) (a : ℕ) (ha : a < 1000) (hl : Ideal.ofBits .f32 l = ((-(a / 2) : ℝ) : EReal))
    (p : ℝ) (h0 : 0 ≤ p) (h1 : p < 1) :
    cell l p = BitVec.ofNat 32 a ∨ cell l p = BitVec.ofNat 32 (a + 1) := by
  have e : Ideal.div ((p : EReal) - Ideal.ofBits .f32 l) (Ideal.ofBits .f32 0x3F000000#32)
      = ((2 * p + a : ℝ) : EReal) := by
    rw [hl, lit_half, ← EReal.coe_sub]
    unfold Ideal.div
    rw [if_neg (by rw [EReal.coe_eq_zero]; norm_num), ← EReal.coe_inv, ← EReal.coe_mul]
    congr 1
    ring
  have pos : (0 : ℝ) ≤ 2 * p + a := by positivity
  have key : ∀ n : ℕ, n < 2000 → ⌊2 * p + a⌋ = (n : ℤ) → cell l p = BitVec.ofNat 32 n := by
    intro n hn hf
    unfold cell
    rw [e]
    show BitVec.ofInt 32 (max _ (min _ (if 0 ≤ 2 * p + (a : ℝ) then _ else _))) = _
    rw [if_pos pos, hf]
    have : max (-((2 ^ (32 - 1) : ℕ) : ℤ)) (min (((2 ^ (32 - 1) : ℕ) : ℤ) - 1) (n : ℤ)) = (n : ℤ) := by
      norm_num; omega
    rw [this]
    rfl
  rcases lt_or_ge p (1 / 2) with hp | hp
  · exact Or.inl (key a (by omega) (Int.floor_eq_iff.mpr ⟨by push_cast; linarith, by push_cast; linarith⟩))
  · exact Or.inr (key (a + 1) (by omega) (Int.floor_eq_iff.mpr ⟨by push_cast; linarith, by push_cast; linarith⟩))

theorem flag_self (l a : BitVec 32) (p : EReal) (h : cell l p = a) : flag l a p = 1 := by
  unfold flag; rw [h]
  simp [IntOp.cmpi, FloatOps.sitofp]

theorem flag_other (l a b : BitVec 32) (p : EReal) (h : cell l p = b) (hb : b ≠ a) : flag l a p = 0 := by
  unfold flag; rw [h]
  have hf : (b == a) = false := by simpa using hb
  simp [IntOp.cmpi, FloatOps.sitofp, hf]

/-- The flags choose the penalty of the point's own cell. -/
theorem choose (l a b : BitVec 32) (p : EReal) (c r : BitVec 32) (hab : b ≠ a) (h : cell l p = a ∨ cell l p = b) :
    flag l a p * pen a c r + (1 - flag l a p) * pen b c r = pen (cell l p) c r := by
  have h11 : (1 : EReal) - 1 = 0 := by rw [← EReal.coe_one, ← EReal.coe_sub]; simp
  rcases h with h | h
  · rw [flag_self l a p h, h, h11, one_mul, zero_mul, add_zero]
  · rw [flag_other l a b p h hab, h, sub_zero, one_mul, zero_mul, zero_add]

/-- The sum over the sixteen features, the penalties apart. -/
theorem sum16 (f : Fin 16 → EReal) :
    ∑ k, f k = (f 0 + f 1 + f 2 + f 3 + f 4 + f 5 + f 6 + f 7 + f 8 + f 9)
      + ((f 10 + f 11) + (f 12 + f 13) + (f 14 + f 15)) := by
  simp only [Fin.sum_univ_succ, Fin.sum_univ_zero]
  show f 0 + (f 1 + (f 2 + (f 3 + (f 4 + (f 5 + (f 6 + (f 7 + (f 8 + (f 9 + (f 10 + (f 11 + (f 12 + (f 13 + (f 14
    + (f 15 + 0))))))))))))))) = _
  rw [add_zero]
  simp only [add_assoc]

theorem near_cases (a b r : BitVec 32) : near a b r = 1#1 ∨ near a b r = 0#1 := by
  generalize near a b r = x
  revert x; decide

theorem pen_one (a b r : BitVec 32) (h : near a b r = 1#1) : pen a b r = 0 := by unfold pen; rw [h]; rfl

theorem pen_zero (a b r : BitVec 32) (h : near a b r = 0#1) : pen a b r = ⊥ := by unfold pen; rw [h]; rfl

theorem fold3 (f : Fin 3 → BitVec 1) :
    Finset.univ.fold IntOp.andi 1#1 f = IntOp.andi (f 0) (IntOp.andi (f 1) (IntOp.andi (f 2) 1#1)) := rfl

/-- The quadratic form at real entries and a real vector. -/
theorem power_coe (g : Fin 6 → ℝ) (d : Fin 3 → ℝ) :
    power (fun k => (g k : EReal)) (fun k => (d k : EReal))
      = ((g 0 * d 0 * d 0 + g 1 * d 1 * d 1 + g 2 * d 2 * d 2
        + 2 * (g 3 * d 0 * d 1 + g 4 * d 1 * d 2 + g 5 * d 0 * d 2) : ℝ) : EReal) := by
  unfold power
  rw [lit_two]
  push_cast
  rfl

/-- The first ten products: the quadratic form at the difference over `-2 ln 2`, and the opacity's logarithm. -/
theorem quad (p q : Fin 3 → ℝ) (o : EReal) (g : Fin 6 → ℝ) (s : Fin 3 → EReal) :
    let f := fun k => feat (fun k => (p k : EReal)) k * coef (fun k => (q k : EReal)) o (fun k => (g k : EReal)) s k
    ∃ w : ℝ, power (fun k => (g k : EReal)) (fun k => (p k : EReal) - (q k : EReal)) = (w : EReal)
      ∧ f 0 + f 1 + f 2 + f 3 + f 4 + f 5 + f 6 + f 7 + f 8 + f 9
        = ((-(w / (2 * Real.log 2)) : ℝ) : EReal) + Ideal.log (max o floorOp) * log2e := by
  intro f
  have hd : (fun k => (p k : EReal) - (q k : EReal)) = fun k => ((p k - q k : ℝ) : EReal) := by
    funext k; rw [EReal.coe_sub]
  refine ⟨_, by rw [hd]; exact power_coe g _, ?_⟩
  have e9 : f 9 = ((-((2 * Real.log 2)⁻¹) * (g 0 * q 0 * q 0 + g 1 * q 1 * q 1 + g 2 * q 2 * q 2
        + 2 * (g 3 * q 0 * q 1 + g 4 * q 1 * q 2 + g 5 * q 0 * q 2)) : ℝ) : EReal)
      + Ideal.log (max o floorOp) * log2e := by
    show 1 * (negHalfLog2e * power (fun k => (g k : EReal)) (fun k => (q k : EReal)) + _) = _
    rw [one_mul, power_coe, negHalfLog2e, ← EReal.coe_mul]
  have e : f 0 + f 1 + f 2 + f 3 + f 4 + f 5 + f 6 + f 7 + f 8
      = ((p 0 * p 0 * (-((2 * Real.log 2)⁻¹) * g 0) + p 1 * p 1 * (-((2 * Real.log 2)⁻¹) * g 1)
        + p 2 * p 2 * (-((2 * Real.log 2)⁻¹) * g 2) + p 0 * p 1 * (-((Real.log 2)⁻¹) * g 3)
        + p 1 * p 2 * (-((Real.log 2)⁻¹) * g 4) + p 0 * p 2 * (-((Real.log 2)⁻¹) * g 5)
        + p 0 * ((Real.log 2)⁻¹ * (g 0 * q 0 + g 3 * q 1 + g 5 * q 2))
        + p 1 * ((Real.log 2)⁻¹ * (g 1 * q 1 + g 3 * q 0 + g 4 * q 2))
        + p 2 * ((Real.log 2)⁻¹ * (g 2 * q 2 + g 4 * q 1 + g 5 * q 0)) : ℝ) : EReal) := by
    simp only [EReal.coe_add, EReal.coe_mul]
    rfl
  rw [e, e9, ← add_assoc, ← EReal.coe_add]
  congr 2
  have hl : Real.log 2 ≠ 0 := (Real.log_pos (by norm_num)).ne'
  field_simp
  ring

/-- Two to the form over `-2 ln 2` and the opacity's logarithm is the opacity times the exponential. -/
theorem exp2_quad (w : ℝ) (o : EReal) (ho : floorOp ≤ o) :
    Ideal.exp2 (((-(w / (2 * Real.log 2)) : ℝ) : EReal) + Ideal.log (max o floorOp) * log2e)
      = o * Ideal.exp (Ideal.ofBits .f32 0xBF000000#32 * (w : EReal)) := by
  obtain ⟨e, he, hfe⟩ := floorOp_pos
  have hl : 0 < Real.log 2 := Real.log_pos (by norm_num)
  rw [max_eq_left ho, lit_neg_half, ← EReal.coe_mul, Ideal.exp_coe, log2e]
  rw [hfe] at ho
  induction o using EReal.rec with
  | bot => exact absurd ho (by simp)
  | top =>
    rw [Ideal.log_top, EReal.top_mul_coe_of_pos (inv_pos.mpr hl), EReal.coe_add_top, Ideal.exp2_top,
      EReal.top_mul_coe_of_pos (Real.exp_pos _)]
  | coe t =>
    have ht : 0 < t := lt_of_lt_of_le he (EReal.coe_le_coe_iff.mp ho)
    rw [Ideal.log_coe, if_neg (not_le.mpr ht), ← EReal.coe_mul, ← EReal.coe_add, Ideal.exp2_coe, ← EReal.coe_mul]
    congr 1
    show (2 : ℝ) ^ (-(w / (2 * Real.log 2)) + Real.log t * (Real.log 2)⁻¹) = _
    rw [Real.rpow_def_of_pos (by norm_num),
      show Real.log 2 * (-(w / (2 * Real.log 2)) + Real.log t * (Real.log 2)⁻¹) = Real.log t + -(1 / 2) * w by
        field_simp; ring, Real.exp_add, Real.exp_log ht]

/-- THE WEIGHTS ARE EQUAL where the point lies in the unit cube, the mean and the covariances are real and the opacity
    is at least the floor. -/
theorem weight_eq (p q : Fin 3 → ℝ) (h0 : ∀ k, 0 ≤ p k) (h1 : ∀ k, p k < 1) (o : EReal) (ho : floorOp ≤ o)
    (g : Fin 6 → ℝ) (s : Fin 3 → EReal) :
    kerWeight (fun k => (p k : EReal)) (fun k => (q k : EReal)) o (fun k => (g k : EReal)) s
      = refWeight (fun k => (p k : EReal)) (fun k => (q k : EReal)) o (fun k => (g k : EReal)) s := by
  obtain ⟨w, hw, hq⟩ := quad p q o g s
  unfold kerWeight refWeight
  rw [sum16, hq, hw, fold3]
  have c0 := cell_unit 0xC2480000#32 100 (by norm_num) (by rw [lit_neg50]; norm_num) (p 0) (h0 0) (h1 0)
  have c1 := cell_unit 0xC2480000#32 100 (by norm_num) (by rw [lit_neg50]; norm_num) (p 1) (h0 1) (h1 1)
  have c2 := cell_unit 0xC0A00000#32 10 (by norm_num) (by rw [lit_neg5]; norm_num) (p 2) (h0 2) (h1 2)
  have f0 := choose 0xC2480000#32 100#32 101#32 (p 0) (cell 0xC2480000#32 (q 0)) (radius s) (by decide) c0
  have f1 := choose 0xC2480000#32 100#32 101#32 (p 1) (cell 0xC2480000#32 (q 1)) (radius s) (by decide) c1
  have f2 := choose 0xC0A00000#32 10#32 11#32 (p 2) (cell 0xC0A00000#32 (q 2)) (radius s) (by decide) c2
  simp only [feat, coef, Matrix.cons_val]
  rw [f0, f1, f2]
  show Ideal.exp2 _ = Scalar.select (IntOp.andi (near (cell 0xC2480000#32 (p 0)) (cell 0xC2480000#32 (q 0)) (radius s))
    (IntOp.andi (near (cell 0xC2480000#32 (p 1)) (cell 0xC2480000#32 (q 1)) (radius s))
      (IntOp.andi (near (cell 0xC0A00000#32 (p 2)) (cell 0xC0A00000#32 (q 2)) (radius s)) 1#1))) _ 0
  rcases near_cases (cell 0xC2480000#32 (p 0)) (cell 0xC2480000#32 (q 0)) (radius s) with n0 | n0
  · rcases near_cases (cell 0xC2480000#32 (p 1)) (cell 0xC2480000#32 (q 1)) (radius s) with n1 | n1
    · rcases near_cases (cell 0xC0A00000#32 (p 2)) (cell 0xC0A00000#32 (q 2)) (radius s) with n2 | n2
      · rw [pen_one _ _ _ n0, pen_one _ _ _ n1, pen_one _ _ _ n2, n0, n1, n2, add_zero, add_zero, add_zero,
          exp2_quad w o ho]
        rfl
      · rw [pen_zero _ _ _ n2, n0, n1, n2, EReal.add_bot, EReal.add_bot]
        rfl
    · rw [pen_zero _ _ _ n1, n0, n1, EReal.add_bot, EReal.bot_add, EReal.add_bot]
      generalize near (cell 0xC0A00000#32 (p 2)) (cell 0xC0A00000#32 (q 2)) (radius s) = x
      have hx : IntOp.andi 1#1 (IntOp.andi 0#1 (IntOp.andi x 1#1)) = 0#1 := by revert x; decide
      rw [hx]
      rfl
  · rw [pen_zero _ _ _ n0, n0, EReal.bot_add, EReal.bot_add, EReal.add_bot]
    generalize IntOp.andi (near (cell 0xC2480000#32 (p 1)) _ _) _ = x
    have hx : IntOp.andi 0#1 x = 0#1 := by revert x; decide
    rw [hx]
    rfl

end Cert.Splat
-- ==== Proof.KBlock.lean ====
module

public import proofs.«01_k».proof.Proof.Gen.KernelIdeal.Value
public import proofs.«01_k».proof.Proof.Weight
public import Idealize.ShloMosaic.Lib.Pointwise

/-! # What one block of the kernel computes

One grid point reads a block of points and the Gaussians' whole tables, and leaves in its output block, at row `r` and
column `c`, the sum over the Gaussians of the kernel's weight (`kerWeight`) times the semantics (`out_apply`). -/

@[expose] public section

noncomputable section

namespace Cert.Splat

open Cert.KernelIdeal Cert.KernelIdeal.Gen Idealize.ShloMosaic Idealize.ShloMosaic.TcCoe Idealize.SL.Sem
open Idealize.ShloMosaic.Pointwise

/-! ## The named constants -/

theorem named_log2e : Named.named (F := Ideal) κ "log2e" (φ := .f32) 0x3FB8AA3B#32 = log2e :=
  IdealRules.named_const.ideal_named_scalar _ _ _ _ rfl

theorem named_neg_log2e : Named.named (F := Ideal) κ "neg_log2e" (φ := .f32) 0xBFB8AA3B#32 = negLog2e :=
  IdealRules.named_const.ideal_named_scalar _ _ _ _ rfl

theorem named_neg_half_log2e : Named.named (F := Ideal) κ "neg_half_log2e" (φ := .f32) 0xBF38AA3B#32 = negHalfLog2e :=
  IdealRules.named_const.ideal_named_scalar _ _ _ _ rfl

theorem named_mask : Named.named (F := Ideal) κ "mask" (φ := .f32) 0xF149F2CA#32 = ⊥ :=
  IdealRules.named_const.ideal_named_scalar _ _ _ _ rfl

/-! ## Loads of one row -/

/-- Row `k` of a table, loaded as a table of one row. -/
theorem ld_row {e : EltTy} {M N : ℕ} (x : Vec Ideal (⟨2, ![M, N]⟩ : Shape) e) (k : ℕ) (hk : k < M)
    (inb : ∀ a, (![k, 0] : Fin 2 → ℕ) a + (![1, N] : Fin 2 → ℕ) a ≤ (![M, N] : Fin 2 → ℕ) a) (m : Fin N) :
    View.ld x (Rect.unit (s := (⟨2, ![M, N]⟩ : Shape)) ![k, 0] ![1, N] inb) (ix2 (0 : Fin 1) m) = x (ix2 ⟨k, hk⟩ m) := by
  refine congrArg x (funext fun a => Fin.ext ?_)
  match a with
  | ⟨0, _⟩ => rfl
  | ⟨1, _⟩ => show 0 + 1 * m.val = m.val; omega

theorem ld1 (x : Vec Ideal S3x2048 .f32) (m : Fin 2048) : View.ld x r0_1 (ix2 (0 : Fin 1) m) = x (ix2 0 m) :=
  ld_row x 0 (by omega) _ m

theorem ld2 (x : Vec Ideal S3x2048 .f32) (m : Fin 2048) : View.ld x r0_2 (ix2 (0 : Fin 1) m) = x (ix2 1 m) :=
  ld_row x 1 (by omega) _ m

theorem ld3 (x : Vec Ideal S3x2048 .f32) (m : Fin 2048) : View.ld x r0_3 (ix2 (0 : Fin 1) m) = x (ix2 2 m) :=
  ld_row x 2 (by omega) _ m

theorem ld4 (x : Vec Ideal S6x2048 .f32) (m : Fin 2048) : View.ld x r0_4 (ix2 (0 : Fin 1) m) = x (ix2 0 m) :=
  ld_row x 0 (by omega) _ m

theorem ld5 (x : Vec Ideal S6x2048 .f32) (m : Fin 2048) : View.ld x r0_5 (ix2 (0 : Fin 1) m) = x (ix2 1 m) :=
  ld_row x 1 (by omega) _ m

theorem ld6 (x : Vec Ideal S6x2048 .f32) (m : Fin 2048) : View.ld x r0_6 (ix2 (0 : Fin 1) m) = x (ix2 2 m) :=
  ld_row x 2 (by omega) _ m

theorem ld7 (x : Vec Ideal S6x2048 .f32) (m : Fin 2048) : View.ld x r0_7 (ix2 (0 : Fin 1) m) = x (ix2 3 m) :=
  ld_row x 3 (by omega) _ m

theorem ld8 (x : Vec Ideal S6x2048 .f32) (m : Fin 2048) : View.ld x r0_8 (ix2 (0 : Fin 1) m) = x (ix2 4 m) :=
  ld_row x 4 (by omega) _ m

theorem ld9 (x : Vec Ideal S6x2048 .f32) (m : Fin 2048) : View.ld x r0_9 (ix2 (0 : Fin 1) m) = x (ix2 5 m) :=
  ld_row x 5 (by omega) _ m

/-! ## The matrix of features -/

/-- The features of the point in row `r`. -/
theorem pay3_apply (x : Vec Ideal S2048x3 .f32) (r : Fin 2048) (k : Fin 16) :
    k0_pay3 x (ix2 r k) = feat (fun a => x (ix2 r a)) k := by
  fin_cases k
  all_goals (first
    | (pointwise [k0_pay3]; done)
    | (pointwise [k0_pay3]; rfl))

/-! ## The matrix of coefficients -/

/-- Sixteen rows laid one above another, read at row `k`. -/
theorem cat_apply (a0 a1 a2 a3 a4 a5 a6 a7 a8 a9 a10 a11 a12 a13 a14 a15 : FVec Ideal S1x2048 .f32)
    (k : Fin 16) (m : Fin 2048) :
    concatenate S16x2048 0 [⟨S1x2048, a0⟩, ⟨S1x2048, a1⟩, ⟨S1x2048, a2⟩, ⟨S1x2048, a3⟩, ⟨S1x2048, a4⟩, ⟨S1x2048, a5⟩, ⟨S1x2048, a6⟩, ⟨S1x2048, a7⟩, ⟨S1x2048, a8⟩, ⟨S1x2048, a9⟩, ⟨S1x2048, a10⟩, ⟨S1x2048, a11⟩, ⟨S1x2048, a12⟩, ⟨S1x2048, a13⟩, ⟨S1x2048, a14⟩, ⟨S1x2048, a15⟩]
        concatenates_S1x2048_S1x2048_S1x2048_S1x2048_S1x2048_S1x2048_S1x2048_S1x2048_S1x2048_S1x2048_S1x2048_S1x2048_S1x2048_S1x2048_S1x2048_S1x2048_S16x2048_d0
        (ix2 k m)
      = (![a0 (ix2 (0 : Fin 1) m), a1 (ix2 (0 : Fin 1) m), a2 (ix2 (0 : Fin 1) m), a3 (ix2 (0 : Fin 1) m), a4 (ix2 (0 : Fin 1) m), a5 (ix2 (0 : Fin 1) m), a6 (ix2 (0 : Fin 1) m), a7 (ix2 (0 : Fin 1) m), a8 (ix2 (0 : Fin 1) m), a9 (ix2 (0 : Fin 1) m), a10 (ix2 (0 : Fin 1) m), a11 (ix2 (0 : Fin 1) m), a12 (ix2 (0 : Fin 1) m), a13 (ix2 (0 : Fin 1) m), a14 (ix2 (0 : Fin 1) m), a15 (ix2 (0 : Fin 1) m)] : Fin 16 → EReal) k := by
  fin_cases k
  all_goals (first
    | (pointwise; done)
    | (pointwise; rfl))

/-- The product of features and coefficients, raised and weighted. -/
theorem pay2_apply (f : FVec Ideal S2048x16 .f32) (g : FVec Ideal S16x2048 .f32) (s : Vec Ideal S2048x18 .f32)
    (r : Fin 2048) (c : Fin 18) :
    k0_pay2 f g s (ix2 r c)
      = ∑ m : Fin 2048, Ideal.exp2 (∑ k : Fin 16, f (ix2 r k) * g (ix2 k m)) * s (ix2 m c) := by
  pointwise [k0_pay2]
  rfl

/-- The first mean row is loaded as it is. -/
theorem pay4_apply (a0 : Vec Ideal S1x2048 .f32) (m : Fin 2048) :
    k0_pay4 a0 (ix2 (0 : Fin 1) m) = a0 (ix2 (0 : Fin 1) m) := by
  pointwise [k0_pay4]

/-- So is the second. -/
theorem pay5_apply (a0 : Vec Ideal S1x2048 .f32) (m : Fin 2048) :
    k0_pay5 a0 (ix2 (0 : Fin 1) m) = a0 (ix2 (0 : Fin 1) m) := by
  pointwise [k0_pay5]

/-- So is the third. -/
theorem pay6_apply (a0 : Vec Ideal S1x2048 .f32) (m : Fin 2048) :
    k0_pay6 a0 (ix2 (0 : Fin 1) m) = a0 (ix2 (0 : Fin 1) m) := by
  pointwise [k0_pay6]

/-- So are the covariance rows: xx, -/
theorem pay7_apply (a0 : Vec Ideal S1x2048 .f32) (m : Fin 2048) :
    k0_pay7 a0 (ix2 (0 : Fin 1) m) = a0 (ix2 (0 : Fin 1) m) := by
  pointwise [k0_pay7]

/-- yy, -/
theorem pay8_apply (a0 : Vec Ideal S1x2048 .f32) (m : Fin 2048) :
    k0_pay8 a0 (ix2 (0 : Fin 1) m) = a0 (ix2 (0 : Fin 1) m) := by
  pointwise [k0_pay8]

/-- zz, -/
theorem pay9_apply (a0 : Vec Ideal S1x2048 .f32) (m : Fin 2048) :
    k0_pay9 a0 (ix2 (0 : Fin 1) m) = a0 (ix2 (0 : Fin 1) m) := by
  pointwise [k0_pay9]

/-- xy, -/
theorem pay10_apply (a0 : Vec Ideal S1x2048 .f32) (m : Fin 2048) :
    k0_pay10 a0 (ix2 (0 : Fin 1) m) = a0 (ix2 (0 : Fin 1) m) := by
  pointwise [k0_pay10]

/-- yz, -/
theorem pay11_apply (a0 : Vec Ideal S1x2048 .f32) (m : Fin 2048) :
    k0_pay11 a0 (ix2 (0 : Fin 1) m) = a0 (ix2 (0 : Fin 1) m) := by
  pointwise [k0_pay11]

/-- and xz. -/
theorem pay12_apply (a0 : Vec Ideal S1x2048 .f32) (m : Fin 2048) :
    k0_pay12 a0 (ix2 (0 : Fin 1) m) = a0 (ix2 (0 : Fin 1) m) := by
  pointwise [k0_pay12]

/-- The means' cells of axis 0. -/
theorem pay13_apply (a0 : FVec Ideal S1x2048 .f32) (m : Fin 2048) :
    k0_pay13 a0 (ix2 (0 : Fin 1) m) = cell 0xC2480000#32 (a0 (ix2 (0 : Fin 1) m)) := by
  pointwise [k0_pay13]
  rfl

/-- The means' cells of axis 1. -/
theorem pay14_apply (a0 : Vec Ideal S1x2048 .f32) (m : Fin 2048) :
    k0_pay14 a0 (ix2 (0 : Fin 1) m) = cell 0xC2480000#32 (a0 (ix2 (0 : Fin 1) m)) := by
  pointwise [k0_pay14, k0_pay5]
  rfl

/-- The means' cells of axis 2. -/
theorem pay15_apply (a0 : Vec Ideal S1x2048 .f32) (m : Fin 2048) :
    k0_pay15 a0 (ix2 (0 : Fin 1) m) = cell 0xC0A00000#32 (a0 (ix2 (0 : Fin 1) m)) := by
  pointwise [k0_pay15, k0_pay6]
  rfl

/-- The radii. -/
theorem pay17_apply (x : Vec Ideal S3x2048 .f32) (m : Fin 2048) :
    k0_pay17 (k0_pay16 x) (ix2 (0 : Fin 1) m) = radius fun a => x (ix2 a m) := by
  pointwise [k0_pay17, k0_pay16]
  rfl

/-- The penalties of cell 100 of axis 0. -/
theorem pay18_apply (a0 : IVec S1x2048 32) (a1 : FVec Ideal S1x2048 .f32) (m : Fin 2048) :
    k0_pay18 a0 a1 (ix2 (0 : Fin 1) m) = pen 100#32 (a0 (ix2 (0 : Fin 1) m)) (k0_pay17 a1 (ix2 (0 : Fin 1) m)) := by
  pointwise [k0_pay18]
  rw [named_mask]
  rfl

/-- The penalties of cell 101 of axis 0. -/
theorem pay19_apply (a0 : IVec S1x2048 32) (a1 : FVec Ideal S1x2048 .f32) (m : Fin 2048) :
    k0_pay19 a0 a1 (ix2 (0 : Fin 1) m) = pen 101#32 (a0 (ix2 (0 : Fin 1) m)) (k0_pay17 a1 (ix2 (0 : Fin 1) m)) := by
  pointwise [k0_pay19]
  rw [named_mask]
  rfl

/-- The penalties of cell 100 of axis 1. -/
theorem pay20_apply (a0 : IVec S1x2048 32) (a1 : FVec Ideal S1x2048 .f32) (m : Fin 2048) :
    k0_pay20 a0 a1 (ix2 (0 : Fin 1) m) = pen 100#32 (a0 (ix2 (0 : Fin 1) m)) (k0_pay17 a1 (ix2 (0 : Fin 1) m)) := by
  pointwise [k0_pay20]
  rw [named_mask]
  rfl

/-- The penalties of cell 101 of axis 1. -/
theorem pay21_apply (a0 : IVec S1x2048 32) (a1 : FVec Ideal S1x2048 .f32) (m : Fin 2048) :
    k0_pay21 a0 a1 (ix2 (0 : Fin 1) m) = pen 101#32 (a0 (ix2 (0 : Fin 1) m)) (k0_pay17 a1 (ix2 (0 : Fin 1) m)) := by
  pointwise [k0_pay21]
  rw [named_mask]
  rfl

/-- The penalties of cell 10 of axis 2. -/
theorem pay22_apply (a0 : IVec S1x2048 32) (a1 : FVec Ideal S1x2048 .f32) (m : Fin 2048) :
    k0_pay22 a0 a1 (ix2 (0 : Fin 1) m) = pen 10#32 (a0 (ix2 (0 : Fin 1) m)) (k0_pay17 a1 (ix2 (0 : Fin 1) m)) := by
  pointwise [k0_pay22]
  rw [named_mask]
  rfl

/-- The penalties of cell 11 of axis 2. -/
theorem pay24_apply (a0 a1 : IVec S1x2048 32) (m : Fin 2048) :
    k0_pay24 (F := Ideal) a0 a1 k0_pay23 (ix2 (0 : Fin 1) m) = pen 11#32 (a0 (ix2 (0 : Fin 1) m)) (a1 (ix2 (0 : Fin 1) m)) := by
  pointwise [k0_pay24, k0_pay23]
  rw [named_mask]
  rfl

/-- The opacities' logarithms to base two. -/
theorem pay25_apply (a0 : Vec Ideal S1x2048 .f32) (m : Fin 2048) :
    k0_pay25 a0 (ix2 (0 : Fin 1) m) = Ideal.log (max (a0 (ix2 (0 : Fin 1) m)) floorOp) * log2e := by
  pointwise [k0_pay25]
  rw [named_log2e]
  rfl

/-- A square's coefficients. -/
theorem pay26_apply (a0 : FVec Ideal S1x2048 .f32) (m : Fin 2048) :
    k0_pay26 a0 (ix2 (0 : Fin 1) m) = negHalfLog2e * a0 (ix2 (0 : Fin 1) m) := by
  pointwise [k0_pay26]
  rw [named_neg_half_log2e]

/-- A square's coefficients. -/
theorem pay27_apply (a0 : FVec Ideal S1x2048 .f32) (m : Fin 2048) :
    k0_pay27 a0 (ix2 (0 : Fin 1) m) = negHalfLog2e * a0 (ix2 (0 : Fin 1) m) := by
  pointwise [k0_pay27]
  rw [named_neg_half_log2e]

/-- A square's coefficients. -/
theorem pay28_apply (a0 : FVec Ideal S1x2048 .f32) (m : Fin 2048) :
    k0_pay28 a0 (ix2 (0 : Fin 1) m) = negHalfLog2e * a0 (ix2 (0 : Fin 1) m) := by
  pointwise [k0_pay28]
  rw [named_neg_half_log2e]

/-- A mixed product's coefficients. -/
theorem pay29_apply (a0 : FVec Ideal S1x2048 .f32) (m : Fin 2048) :
    k0_pay29 a0 (ix2 (0 : Fin 1) m) = negLog2e * a0 (ix2 (0 : Fin 1) m) := by
  pointwise [k0_pay29]
  rw [named_neg_log2e]

/-- A mixed product's coefficients. -/
theorem pay30_apply (a0 : FVec Ideal S1x2048 .f32) (m : Fin 2048) :
    k0_pay30 a0 (ix2 (0 : Fin 1) m) = negLog2e * a0 (ix2 (0 : Fin 1) m) := by
  pointwise [k0_pay30]
  rw [named_neg_log2e]

/-- A mixed product's coefficients. -/
theorem pay31_apply (a0 : FVec Ideal S1x2048 .f32) (m : Fin 2048) :
    k0_pay31 a0 (ix2 (0 : Fin 1) m) = negLog2e * a0 (ix2 (0 : Fin 1) m) := by
  pointwise [k0_pay31]
  rw [named_neg_log2e]

/-- The first coordinate's coefficients. -/
theorem pay32_apply (a0 : FVec Ideal S1x2048 .f32) (a1 : FVec Ideal S1x2048 .f32) (a2 : FVec Ideal S1x2048 .f32) (a3 : FVec Ideal S1x2048 .f32) (a4 : FVec Ideal S1x2048 .f32) (a5 : FVec Ideal S1x2048 .f32) (m : Fin 2048) :
    k0_pay32 a0 a1 a2 a3 a4 a5 (ix2 (0 : Fin 1) m) = log2e * (a3 (ix2 (0 : Fin 1) m) * a0 (ix2 (0 : Fin 1) m) + a4 (ix2 (0 : Fin 1) m) * a1 (ix2 (0 : Fin 1) m) + a5 (ix2 (0 : Fin 1) m) * a2 (ix2 (0 : Fin 1) m)) := by
  pointwise [k0_pay32]
  rw [named_log2e]

/-- The second coordinate's coefficients. -/
theorem pay33_apply (a0 : FVec Ideal S1x2048 .f32) (a1 : FVec Ideal S1x2048 .f32) (a2 : FVec Ideal S1x2048 .f32) (a3 : FVec Ideal S1x2048 .f32) (a4 : FVec Ideal S1x2048 .f32) (a5 : FVec Ideal S1x2048 .f32) (m : Fin 2048) :
    k0_pay33 a0 a1 a2 a3 a4 a5 (ix2 (0 : Fin 1) m) = log2e * (a3 (ix2 (0 : Fin 1) m) * a1 (ix2 (0 : Fin 1) m) + a4 (ix2 (0 : Fin 1) m) * a0 (ix2 (0 : Fin 1) m) + a5 (ix2 (0 : Fin 1) m) * a2 (ix2 (0 : Fin 1) m)) := by
  pointwise [k0_pay33]
  rw [named_log2e]

/-- The third coordinate's coefficients. -/
theorem pay34_apply (a0 : FVec Ideal S1x2048 .f32) (a1 : FVec Ideal S1x2048 .f32) (a2 : FVec Ideal S1x2048 .f32) (a3 : FVec Ideal S1x2048 .f32) (a4 : FVec Ideal S1x2048 .f32) (a5 : FVec Ideal S1x2048 .f32) (m : Fin 2048) :
    k0_pay34 a0 a1 a2 a3 a4 a5 (ix2 (0 : Fin 1) m) = log2e * (a3 (ix2 (0 : Fin 1) m) * a2 (ix2 (0 : Fin 1) m) + a4 (ix2 (0 : Fin 1) m) * a1 (ix2 (0 : Fin 1) m) + a5 (ix2 (0 : Fin 1) m) * a0 (ix2 (0 : Fin 1) m)) := by
  pointwise [k0_pay34]
  rw [named_log2e]

/-- The constant feature's coefficients. -/
theorem pay1_apply (a0 a1 a2 a3 a4 a5 a6 a7 a8 a9 : FVec Ideal S1x2048 .f32) (m : Fin 2048) :
    k0_pay1 a0 a1 a2 a3 a4 a5 a6 a7 a8 a9 (ix2 (0 : Fin 1) m)
      = negHalfLog2e * power ![a3 (ix2 (0 : Fin 1) m), a4 (ix2 (0 : Fin 1) m), a5 (ix2 (0 : Fin 1) m), a6 (ix2 (0 : Fin 1) m), a7 (ix2 (0 : Fin 1) m), a8 (ix2 (0 : Fin 1) m)] ![a0 (ix2 (0 : Fin 1) m), a1 (ix2 (0 : Fin 1) m), a2 (ix2 (0 : Fin 1) m)] + a9 (ix2 (0 : Fin 1) m) := by
  pointwise [k0_pay1]
  rw [named_neg_half_log2e]
  rfl

/-! ## The block -/

theorem vec3 {α : Type} (f : Fin 3 → α) : ![f 0, f 1, f 2] = f := by
  funext k; fin_cases k <;> rfl

theorem vec6 {α : Type} (f : Fin 6 → α) : ![f 0, f 1, f 2, f 3, f 4, f 5] = f := by
  funext k; fin_cases k <;> rfl

/-- WHAT A BLOCK COMPUTES: at row `r` and column `c`, the sum over the Gaussians `m` of the weight of `m` at the point of
    row `r` times the semantics of `m`. -/
theorem out_apply (x0 : Vec Ideal S2048x3 .f32) (x1 : Vec Ideal S3x2048 .f32) (x2 : Vec Ideal S1x2048 .f32)
    (x3 : Vec Ideal S2048x18 .f32) (x4 : Vec Ideal S3x2048 .f32) (x5 : Vec Ideal S6x2048 .f32)
    (r : Fin 2048) (c : Fin 18) :
    out0_6 x0 x1 x2 x3 x4 x5 (ix2 r c)
      = ∑ m : Fin 2048, kerWeight (fun k => x0 (ix2 r k)) (fun k => x1 (ix2 k m)) (x2 (ix2 0 m))
          (fun k => x5 (ix2 k m)) (fun k => x4 (ix2 k m)) * x3 (ix2 m c) := by
  have z : (![0, 0] : Fin 2 → ℕ) = fun _ => 0 := by funext a; fin_cases a <;> rfl
  unfold_out out0_6
  rw [View.canon_unit_zero z, View.ld_unit_zero z _ x0, View.ld_unit_zero z _ x2, View.ld_unit_zero z _ x3,
    View.ld_unit_zero z _ x4, pay2_apply]
  have e1 : ∀ m, View.ld x1 r0_1 (ix2 (0 : Fin 1) m) = x1 (ix2 0 m) := ld1 x1
  generalize View.ld x1 r0_1 = a1 at e1 ⊢
  have e2 : ∀ m, View.ld x1 r0_2 (ix2 (0 : Fin 1) m) = x1 (ix2 1 m) := ld2 x1
  generalize View.ld x1 r0_2 = a2 at e2 ⊢
  have e3 : ∀ m, View.ld x1 r0_3 (ix2 (0 : Fin 1) m) = x1 (ix2 2 m) := ld3 x1
  generalize View.ld x1 r0_3 = a3 at e3 ⊢
  have e4 : ∀ m, View.ld x5 r0_4 (ix2 (0 : Fin 1) m) = x5 (ix2 0 m) := ld4 x5
  generalize View.ld x5 r0_4 = a4 at e4 ⊢
  have e5 : ∀ m, View.ld x5 r0_5 (ix2 (0 : Fin 1) m) = x5 (ix2 1 m) := ld5 x5
  generalize View.ld x5 r0_5 = a5 at e5 ⊢
  have e6 : ∀ m, View.ld x5 r0_6 (ix2 (0 : Fin 1) m) = x5 (ix2 2 m) := ld6 x5
  generalize View.ld x5 r0_6 = a6 at e6 ⊢
  have e7 : ∀ m, View.ld x5 r0_7 (ix2 (0 : Fin 1) m) = x5 (ix2 3 m) := ld7 x5
  generalize View.ld x5 r0_7 = a7 at e7 ⊢
  have e8 : ∀ m, View.ld x5 r0_8 (ix2 (0 : Fin 1) m) = x5 (ix2 4 m) := ld8 x5
  generalize View.ld x5 r0_8 = a8 at e8 ⊢
  have e9 : ∀ m, View.ld x5 r0_9 (ix2 (0 : Fin 1) m) = x5 (ix2 5 m) := ld9 x5
  generalize View.ld x5 r0_9 = a9 at e9 ⊢
  refine Finset.sum_congr rfl fun m _ => ?_
  unfold kerWeight
  congr 2
  refine Finset.sum_congr rfl fun k _ => ?_
  rw [pay3_apply, cat_apply]
  congr 1
  simp only [pay26_apply, pay27_apply, pay28_apply, pay29_apply, pay30_apply, pay31_apply, pay32_apply, pay33_apply,
    pay34_apply, pay1_apply, pay18_apply, pay19_apply, pay20_apply, pay21_apply, pay22_apply, pay24_apply, pay25_apply,
    pay17_apply, pay13_apply, pay14_apply, pay15_apply, pay4_apply, pay5_apply, pay6_apply, pay7_apply, pay8_apply,
    pay9_apply, pay10_apply, pay11_apply, pay12_apply]
  rw [e1 m, e2 m, e3 m, e4 m, e5 m, e6 m, e7 m, e8 m, e9 m,
    vec3 (fun k => x1 (ix2 k m)), vec6 (fun k => x5 (ix2 k m))]
  rfl

end Cert.Splat
-- ==== Proof.KArray.lean ====
module

public import proofs.«01_k».proof.Proof.KBlock
public import Idealize.ShloMosaic.Lib.Claim
public import Idealize.ShloMosaic.Lib.Pipeline.ValueKit

/-! # What the output array holds after the kernel's run

The four grid points write the four blocks of 2048 rows. Row `n` of the array, at column `j`, is the sum over the
Gaussians of the kernel's weight at the point `n` times the semantics (`final`). The tables that the blocks are read
from are the arguments reshaped, transposed and, for the covariances, reduced to six entries by a gather. -/

@[expose] public section

noncomputable section

namespace Cert.Splat

open Cert.KernelIdeal Cert.KernelIdeal.Gen Idealize.ShloMosaic Idealize.ShloMosaic.TcCoe Idealize.SL.Sem
open Idealize.ShloMosaic.Pointwise

variable (m : (ℓ : Loc nD τ sig) → Buf (Elt Ideal) ℓ) (c : Dev nD)

/-- The points. -/
abbrev A0 : FVec Ideal S1x8192x3 .f32 := m ((c.tc : Thread nD τ).loc main_arg0)
/-- The means. -/
abbrev A1 : FVec Ideal S1x2048x3 .f32 := m ((c.tc : Thread nD τ).loc main_arg1)
/-- The opacities. -/
abbrev A2 : FVec Ideal S1x2048 .f32 := m ((c.tc : Thread nD τ).loc main_arg2)
/-- The semantics. -/
abbrev A3 : FVec Ideal S1x2048x18 .f32 := m ((c.tc : Thread nD τ).loc main_arg3)
/-- The scales. -/
abbrev A4 : FVec Ideal S1x2048x3 .f32 := m ((c.tc : Thread nD τ).loc main_arg4)
/-- The inverse covariances. -/
abbrev A5 : FVec Ideal S1x2048x3x3 .f32 := m ((c.tc : Thread nD τ).loc main_arg5)

/-! ## The tables as the grid finds them -/

/-- The six entries of every covariance that the kernel reads: of the nine, the entries 0, 4, 8, 1, 5 and 2. -/
def entries (x5 : FVec Ideal S1x2048x3x3 .f32) : FVec Ideal S2048x6 .f32 :=
  Host.gather gather_S2048x9_S6x1_S2048x6_0_1_n_n_1_1_20481
    (shapeCast _ (shapeCast _ x5 shapeCasts_S1x2048x3x3_S2048x3x3) shapeCasts_S2048x3x3_S2048x9)
    (broadcastInDim S6x1 ![0] bcast_S6_S6x1_0 (select (constantI S6 1 0#1)
      (addi ((fun i => lit0 (S6.rowMajor i))) (broadcastInDim S6 ![] bcast_S_S6 (constantI S_ 32 9#32)))
      ((fun i => lit0 (S6.rowMajor i)))))

/-- A gathered entry is one of the covariances' entries. -/
theorem entries_mem (x5 : FVec Ideal S1x2048x3x3 .f32) (j : S2048x6.Idx) : ∃ i, entries x5 j = x5 i :=
  ⟨_, rfl⟩

theorem table0 (n : Fin 8192) (k : Fin 3) :
    (V m c main_call0_v0 : FVec Ideal S8192x3 .f32) (ix2 n k) = A0 m c (ix3 0 n k) := by
  entry_read
  pointwise

theorem table1 (k : Fin 3) (g : Fin 2048) :
    (V m c main_call0_v2 : FVec Ideal S3x2048 .f32) (ix2 k g) = A1 m c (ix3 0 g k) := by
  entry_read
  show transpose S3x2048 [1, 0] (shapeCast S2048x3 (A1 m c) shapeCasts_S1x2048x3_S2048x3)
    transposes_S2048x3_S3x2048_1_0 (ix2 k g) = _
  pointwise

theorem table3 (g : Fin 2048) (j : Fin 18) :
    (V m c main_call0_v3 : FVec Ideal S2048x18 .f32) (ix2 g j) = A3 m c (ix3 0 g j) := by
  entry_read
  pointwise

theorem table4 (k : Fin 3) (g : Fin 2048) :
    (V m c main_call0_v5 : FVec Ideal S3x2048 .f32) (ix2 k g) = A4 m c (ix3 0 g k) := by
  entry_read
  show transpose S3x2048 [1, 0] (shapeCast S2048x3 (A4 m c) shapeCasts_S1x2048x3_S2048x3)
    transposes_S2048x3_S3x2048_1_0 (ix2 k g) = _
  pointwise

theorem table5 (k : Fin 6) (g : Fin 2048) :
    (V m c main_call0_v13 : FVec Ideal S6x2048 .f32) (ix2 k g) = entries (A5 m c) (ix2 g k) := by
  entry_read
  show transpose S6x2048 [1, 0] (entries (A5 m c)) transposes_S2048x6_S6x2048_1_0 (ix2 k g) = _
  generalize entries (A5 m c) = e
  pointwise

/-! ## The blocks -/

/-- The points' and the output's windows move down one block a grid point; the tables' windows stay. -/
theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![0, 0] ∧ win0_6.index t = ![t.val, 0] :=
  (by decide +kernel : ∀ t : Fin grid0.N, win0_0.index t = ![t.val, 0] ∧ win0_1.index t = ![0, 0]
    ∧ win0_2.index t = ![0, 0] ∧ win0_3.index t = ![0, 0] ∧ win0_4.index t = ![0, 0] ∧ win0_5.index t = ![0, 0]
    ∧ win0_6.index t = ![t.val, 0])

/-- The array's row that block `t` holds in its row `r`. -/
def row (t : Fin cfg0.N) (r : Fin 2048) : Fin 8192 :=
  ⟨t.val * 2048 + r.val, by have h := t.isLt; have h' : cfg0.N = 4 := rfl; omega⟩

theorem block0 (t : Fin cfg0.N) (r : Fin 2048) (k : Fin 3) :
    (iblk m c 0 t : FVec Ideal S2048x3 .f32) (ix2 r k) = (V m c main_call0_v0 : FVec Ideal S8192x3 .f32) (ix2 (row t r) k) := by
  unfold row
  blk_ext [iblk, idx t]

theorem block1 (t : Fin cfg0.N) (k : Fin 3) (g : Fin 2048) :
    (iblk m c 1 t : FVec Ideal S3x2048 .f32) (ix2 k g) = (V m c main_call0_v2 : FVec Ideal S3x2048 .f32) (ix2 k g) := by
  blk_ext [iblk, idx t]

theorem block2 (t : Fin cfg0.N) (g : Fin 2048) :
    (iblk m c 2 t : FVec Ideal S1x2048 .f32) (ix2 0 g) = (V m c main_arg2 : FVec Ideal S1x2048 .f32) (ix2 0 g) := by
  blk_ext [iblk, idx t]

theorem block3 (t : Fin cfg0.N) (g : Fin 2048) (j : Fin 18) :
    (iblk m c 3 t : FVec Ideal S2048x18 .f32) (ix2 g j) = (V m c main_call0_v3 : FVec Ideal S2048x18 .f32) (ix2 g j) := by
  blk_ext [iblk, idx t]

theorem block4 (t : Fin cfg0.N) (k : Fin 3) (g : Fin 2048) :
    (iblk m c 4 t : FVec Ideal S3x2048 .f32) (ix2 k g) = (V m c main_call0_v5 : FVec Ideal S3x2048 .f32) (ix2 k g) := by
  blk_ext [iblk, idx t]

theorem block5 (t : Fin cfg0.N) (k : Fin 6) (g : Fin 2048) :
    (iblk m c 5 t : FVec Ideal S6x2048 .f32) (ix2 k g) = (V m c main_call0_v13 : FVec Ideal S6x2048 .f32) (ix2 k g) := by
  blk_ext [iblk, idx t]

theorem place6 (t : Fin cfg0.N) (r : Fin 2048) (j : Fin 18) :
    ((win0_6.blk t).view.emb (ix2 r j) : S8192x18.Idx) = ix2 (row t r) j := by
  unfold row
  blk_ext [idx t]

/-! ## The array -/

/-- The kernel's result as one function of the arguments, at the point `n` and the column `j`. -/
def kerAt (n : Fin 8192) (j : Fin 18) : EReal :=
  ∑ g : Fin 2048, kerWeight (fun k => A0 m c (ix3 0 n k)) (fun k => A1 m c (ix3 0 g k)) (A2 m c (ix2 0 g))
    (fun k => entries (A5 m c) (ix2 g k)) (fun k => A4 m c (ix3 0 g k)) * A3 m c (ix3 0 g j)

/-- WHAT THE ARRAY HOLDS after the run: `kerAt` at every index. -/
theorem final : (dats m 0 c).arrAt 6 cfg0.N = (fun i : S8192x18.Idx => kerAt m c (i 0) (i 1)) := by
  refine (dats m 0 c).arrAt_eq_of_covers 6 _ (by decide +kernel) fun t hf y => ?_
  blk_simp
  rw [after0_6]
  have key : ∀ (r : Fin 2048) (j : Fin 18), out0_6 (iblk m c 0 t) (iblk m c 1 t) (iblk m c 2 t) (iblk m c 3 t)
      (iblk m c 4 t) (iblk m c 5 t) (ix2 r j)
        = (fun i : S8192x18.Idx => kerAt m c (i 0) (i 1)) ((win0_6.blk t).view.emb (ix2 r j)) := by
    intro r j
    refine Eq.trans ?_ (congrArg (fun i : S8192x18.Idx => kerAt m c (i 0) (i 1)) (place6 t r j)).symm
    rw [out_apply]
    show _ = kerAt m c (row t r) j
    unfold kerAt
    refine Finset.sum_congr rfl fun g _ => ?_
    have e0 := fun k => (block0 m c t r k).trans (table0 m c (row t r) k)
    have e1 := fun k => (block1 m c t k g).trans (table1 m c k g)
    have e2 : (iblk m c 2 t : FVec Ideal S1x2048 .f32) (ix2 0 g) = A2 m c (ix2 0 g) :=
      (block2 m c t g).trans (congrFun (V_main_arg2 m c) _)
    have e3 := (block3 m c t g j).trans (table3 m c g j)
    have e4 := fun k => (block4 m c t k g).trans (table4 m c k g)
    have e5 := fun k => (block5 m c t k g).trans (table5 m c k g)
    simp only [e0, e1, e2, e3, e4, e5]
  have hy : (y : S2048x18.Idx) = ix2 (y 0) (y 1) := eq_ix2 y
  refine (congrArg _ hy).trans ((key (y 0) (y 1)).trans ?_)
  exact congrArg (fun z => (fun i : S8192x18.Idx => kerAt m c (i 0) (i 1)) ((win0_6.blk t).view.emb z)) hy.symm

end Cert.Splat
-- ==== Proof.RefVal.lean ====
module

public import proofs.«01_k».proof.Proof.Gen.ReferenceIdeal.Run
public import proofs.«01_k».proof.Proof.Weight
public import Idealize.ShloMosaic.Lib.Pointwise

/-! # What the reference computes

The reference's result at the point `n` and the column `j` is the sum over the Gaussians of the reference's weight
(`refWeight`) times the semantics (`ref_apply`). Its one large term is read piece by piece, each piece at an index. -/

@[expose] public section

noncomputable section

namespace Cert.Splat.Ref

open Cert.ReferenceIdeal Cert.ReferenceIdeal.Gen Cert.ReferenceIdeal.Value Idealize.ShloMosaic Idealize.ShloMosaic.TcCoe
open Idealize.SL.Sem Idealize.ShloMosaic.Pointwise

/-- Every point's coordinates less every mean's. -/
def diff (x0 : FVec Ideal S1x8192x3 .f32) (x1 : FVec Ideal S1x2048x3 .f32) : FVec Ideal S8192x2048x3 .f32 :=
  subf (broadcastInDim S8192x2048x3 ![0, 1, 2] bcast_S8192x1x3_S8192x2048x3_0_1_2
      (broadcastInDim S8192x1x3 ![0, 2] bcast_S8192x3_S8192x1x3_0_2 (shapeCast _ x0 shapeCasts_S1x8192x3_S8192x3)))
    (broadcastInDim S8192x2048x3 ![0, 1, 2] bcast_S1x2048x3_S8192x2048x3_0_1_2
      (broadcastInDim S1x2048x3 ![1, 2] bcast_S2048x3_S1x2048x3_1_2 (shapeCast _ x1 shapeCasts_S1x2048x3_S2048x3)))

theorem diff_apply (x0 : FVec Ideal S1x8192x3 .f32) (x1 : FVec Ideal S1x2048x3 .f32) (n : Fin 8192) (m : Fin 2048)
    (k : Fin 3) : diff x0 x1 (ix3 n m k) = x0 (ix3 0 n k) - x1 (ix3 0 m k) := by
  pointwise [diff]

/-- The grid's corner. -/
def corner : FVec Ideal S3 .f32 := fun i => FloatOps.ofBits .f32 (lit0 (S3.rowMajor i))

theorem corner_apply (k : Fin 3) : corner (ix1 k) = Ideal.ofBits .f32 (lo k) := by
  fin_cases k <;> rfl

/-- The points' cells. -/
def pcell (x0 : FVec Ideal S1x8192x3 .f32) : IVec S8192x2048x3 32 :=
  broadcastInDim S8192x2048x3 ![0, 1, 2] bcast_S8192x1x3_S8192x2048x3_0_1_2 (broadcastInDim S8192x1x3 ![0, 2]
    bcast_S8192x3_S8192x1x3_0_2 (fptosi 32 (Host.divf (subf (shapeCast _ x0 shapeCasts_S1x8192x3_S8192x3)
      (broadcastInDim S8192x3 ![0, 1] bcast_S1x3_S8192x3_0_1 (broadcastInDim S1x3 ![1] bcast_S3_S1x3_1 corner)))
      (broadcastInDim S8192x3 ![] bcast_S_S8192x3 (constant (F := Ideal) S_ .f32 0x3F000000#32)))))

theorem pcell_apply (x0 : FVec Ideal S1x8192x3 .f32) (n : Fin 8192) (m : Fin 2048) (k : Fin 3) :
    pcell x0 (ix3 n m k) = cell (lo k) (x0 (ix3 0 n k)) := by
  pointwise [pcell]
  rw [corner_apply]
  rfl

/-- The means' cells. -/
def mcell (x1 : FVec Ideal S1x2048x3 .f32) : IVec S8192x2048x3 32 :=
  broadcastInDim S8192x2048x3 ![0, 1, 2] bcast_S1x2048x3_S8192x2048x3_0_1_2 (broadcastInDim S1x2048x3 ![1, 2]
    bcast_S2048x3_S1x2048x3_1_2 (fptosi 32 (Host.divf (subf (shapeCast _ x1 shapeCasts_S1x2048x3_S2048x3)
      (broadcastInDim S2048x3 ![0, 1] bcast_S1x3_S2048x3_0_1 (broadcastInDim S1x3 ![1] bcast_S3_S1x3_1 corner)))
      (broadcastInDim S2048x3 ![] bcast_S_S2048x3 (constant (F := Ideal) S_ .f32 0x3F000000#32)))))

theorem mcell_apply (x1 : FVec Ideal S1x2048x3 .f32) (n : Fin 8192) (m : Fin 2048) (k : Fin 3) :
    mcell x1 (ix3 n m k) = cell (lo k) (x1 (ix3 0 m k)) := by
  pointwise [mcell]
  rw [corner_apply]
  rfl

/-- The Gaussians' radii in cells. -/
def rad (x4 : FVec Ideal S1x2048x3 .f32) : IVec S8192x2048x3 32 :=
  broadcastInDim S8192x2048x3 ![0, 1, 2] bcast_S1x2048x1_S8192x2048x3_0_1_2 (broadcastInDim S1x2048x1 ![1]
    bcast_S2048_S1x2048x1_1 (fptosi 32 (Host.ceil (Host.divf (mulf (Host.reduce FloatOps.maximumf
      (shapeCast _ x4 shapeCasts_S1x2048x3_S2048x3) (constant (F := Ideal) S_ .f32 0xFF800000#32)
        reducesTo_S2048x3_S2048_d1 h_S_)
      (broadcastInDim S2048 ![] bcast_S_S2048 (constant (F := Ideal) S_ .f32 0x40400000#32)))
      (broadcastInDim S2048 ![] bcast_S_S2048 (constant (F := Ideal) S_ .f32 0x3F000000#32))))))

theorem rad_apply (x4 : FVec Ideal S1x2048x3 .f32) (n : Fin 8192) (m : Fin 2048) (k : Fin 3) :
    rad x4 (ix3 n m k) = radius fun a => x4 (ix3 0 m a) := by
  pointwise [rad]
  rfl

/-- Whether the point's cell lies within the radius of the mean's on every axis. -/
def mask (x0 : FVec Ideal S1x8192x3 .f32) (x1 x4 : FVec Ideal S1x2048x3 .f32) : IVec S8192x2048 1 :=
  Host.reduce IntOp.andi (cmpi .sle (absi (subi (pcell x0) (mcell x1))) (rad x4)) (constantI S_ 1 1#1)
    reducesTo_S8192x2048x3_S8192x2048_d2 h_S_

theorem mask_apply (x0 : FVec Ideal S1x8192x3 .f32) (x1 x4 : FVec Ideal S1x2048x3 .f32) (n : Fin 8192) (m : Fin 2048) :
    mask x0 x1 x4 (ix2 n m) = Finset.univ.fold IntOp.andi 1#1 fun k : Fin 3 =>
      near (cell (lo k) (x0 (ix3 0 n k))) (cell (lo k) (x1 (ix3 0 m k))) (radius fun a => x4 (ix3 0 m a)) := by
  pointwise [mask]
  simp only [pcell_apply, mcell_apply, rad_apply]
  rfl

/-- The six entries of every covariance that the two programs read: of the nine, the entries 0, 4, 8, 1, 5 and 2. -/
def entries (x5 : FVec Ideal S1x2048x3x3 .f32) : FVec Ideal S2048x6 .f32 :=
  Host.gather gather_S2048x9_S6x1_S2048x6_0_1_n_n_1_1_20481
    (shapeCast _ (shapeCast _ x5 shapeCasts_S1x2048x3x3_S2048x3x3) shapeCasts_S2048x3x3_S2048x9)
    (broadcastInDim S6x1 ![0] bcast_S6_S6x1_0 (select
      (cmpi .slt ((fun i => lit1 (S6.rowMajor i))) (broadcastInDim S6 ![] bcast_S_S6 (constantI S_ 32 0#32)))
      (addi ((fun i => lit1 (S6.rowMajor i))) (broadcastInDim S6 ![] bcast_S_S6 (constantI S_ 32 9#32)))
      ((fun i => lit1 (S6.rowMajor i)))))

/-- Coordinate 0 of the differences. -/
def dcol0 (d : FVec Ideal S8192x2048x3 .f32) : FVec Ideal S8192x2048 .f32 :=
  shapeCast _ (extractStridedSlice S8192x2048x1 ![0, 0, 0] d slices_S8192x2048x3_S8192x2048x1_0_0_0)
    shapeCasts_S8192x2048x1_S8192x2048

theorem dcol0_apply (d : FVec Ideal S8192x2048x3 .f32) (n : Fin 8192) (m : Fin 2048) :
    dcol0 d (ix2 n m) = d (ix3 n m 0) := by
  pointwise [dcol0]

/-- Coordinate 1 of the differences. -/
def dcol1 (d : FVec Ideal S8192x2048x3 .f32) : FVec Ideal S8192x2048 .f32 :=
  shapeCast _ (extractStridedSlice S8192x2048x1 ![0, 0, 1] d slices_S8192x2048x3_S8192x2048x1_0_0_1)
    shapeCasts_S8192x2048x1_S8192x2048

theorem dcol1_apply (d : FVec Ideal S8192x2048x3 .f32) (n : Fin 8192) (m : Fin 2048) :
    dcol1 d (ix2 n m) = d (ix3 n m 1) := by
  pointwise [dcol1]

/-- Coordinate 2 of the differences. -/
def dcol2 (d : FVec Ideal S8192x2048x3 .f32) : FVec Ideal S8192x2048 .f32 :=
  shapeCast _ (extractStridedSlice S8192x2048x1 ![0, 0, 2] d slices_S8192x2048x3_S8192x2048x1_0_0_2)
    shapeCasts_S8192x2048x1_S8192x2048

theorem dcol2_apply (d : FVec Ideal S8192x2048x3 .f32) (n : Fin 8192) (m : Fin 2048) :
    dcol2 d (ix2 n m) = d (ix3 n m 2) := by
  pointwise [dcol2]

/-- Entry 0 of the covariances, the same at every point. -/
def ccol0 (g : FVec Ideal S2048x6 .f32) : FVec Ideal S8192x2048 .f32 :=
  broadcastInDim S8192x2048 ![0, 1] bcast_S1x2048_S8192x2048_0_1 (broadcastInDim S1x2048 ![1] bcast_S2048_S1x2048_1
    (shapeCast _ (extractStridedSlice S2048x1 ![0, 0] g slices_S2048x6_S2048x1_0_0) shapeCasts_S2048x1_S2048))

theorem ccol0_apply (g : FVec Ideal S2048x6 .f32) (n : Fin 8192) (m : Fin 2048) :
    ccol0 g (ix2 n m) = g (ix2 m 0) := by
  pointwise [ccol0]

/-- Entry 1 of the covariances, the same at every point. -/
def ccol1 (g : FVec Ideal S2048x6 .f32) : FVec Ideal S8192x2048 .f32 :=
  broadcastInDim S8192x2048 ![0, 1] bcast_S1x2048_S8192x2048_0_1 (broadcastInDim S1x2048 ![1] bcast_S2048_S1x2048_1
    (shapeCast _ (extractStridedSlice S2048x1 ![0, 1] g slices_S2048x6_S2048x1_0_1) shapeCasts_S2048x1_S2048))

theorem ccol1_apply (g : FVec Ideal S2048x6 .f32) (n : Fin 8192) (m : Fin 2048) :
    ccol1 g (ix2 n m) = g (ix2 m 1) := by
  pointwise [ccol1]

/-- Entry 2 of the covariances, the same at every point. -/
def ccol2 (g : FVec Ideal S2048x6 .f32) : FVec Ideal S8192x2048 .f32 :=
  broadcastInDim S8192x2048 ![0, 1] bcast_S1x2048_S8192x2048_0_1 (broadcastInDim S1x2048 ![1] bcast_S2048_S1x2048_1
    (shapeCast _ (extractStridedSlice S2048x1 ![0, 2] g slices_S2048x6_S2048x1_0_2) shapeCasts_S2048x1_S2048))

theorem ccol2_apply (g : FVec Ideal S2048x6 .f32) (n : Fin 8192) (m : Fin 2048) :
    ccol2 g (ix2 n m) = g (ix2 m 2) := by
  pointwise [ccol2]

/-- Entry 3 of the covariances, the same at every point. -/
def ccol3 (g : FVec Ideal S2048x6 .f32) : FVec Ideal S8192x2048 .f32 :=
  broadcastInDim S8192x2048 ![0, 1] bcast_S1x2048_S8192x2048_0_1 (broadcastInDim S1x2048 ![1] bcast_S2048_S1x2048_1
    (shapeCast _ (extractStridedSlice S2048x1 ![0, 3] g slices_S2048x6_S2048x1_0_3) shapeCasts_S2048x1_S2048))

theorem ccol3_apply (g : FVec Ideal S2048x6 .f32) (n : Fin 8192) (m : Fin 2048) :
    ccol3 g (ix2 n m) = g (ix2 m 3) := by
  pointwise [ccol3]

/-- Entry 4 of the covariances, the same at every point. -/
def ccol4 (g : FVec Ideal S2048x6 .f32) : FVec Ideal S8192x2048 .f32 :=
  broadcastInDim S8192x2048 ![0, 1] bcast_S1x2048_S8192x2048_0_1 (broadcastInDim S1x2048 ![1] bcast_S2048_S1x2048_1
    (shapeCast _ (extractStridedSlice S2048x1 ![0, 4] g slices_S2048x6_S2048x1_0_4) shapeCasts_S2048x1_S2048))

theorem ccol4_apply (g : FVec Ideal S2048x6 .f32) (n : Fin 8192) (m : Fin 2048) :
    ccol4 g (ix2 n m) = g (ix2 m 4) := by
  pointwise [ccol4]

/-- Entry 5 of the covariances, the same at every point. -/
def ccol5 (g : FVec Ideal S2048x6 .f32) : FVec Ideal S8192x2048 .f32 :=
  broadcastInDim S8192x2048 ![0, 1] bcast_S1x2048_S8192x2048_0_1 (broadcastInDim S1x2048 ![1] bcast_S2048_S1x2048_1
    (shapeCast _ (extractStridedSlice S2048x1 ![0, 5] g slices_S2048x6_S2048x1_0_5) shapeCasts_S2048x1_S2048))

theorem ccol5_apply (g : FVec Ideal S2048x6 .f32) (n : Fin 8192) (m : Fin 2048) :
    ccol5 g (ix2 n m) = g (ix2 m 5) := by
  pointwise [ccol5]

/-- The quadratic form at every point and Gaussian. -/
def form (g : FVec Ideal S2048x6 .f32) (d : FVec Ideal S8192x2048x3 .f32) : FVec Ideal S8192x2048 .f32 :=
  addf (addf (addf (mulf (mulf (ccol0 g) (dcol0 d)) (dcol0 d)) (mulf (mulf (ccol1 g) (dcol1 d)) (dcol1 d)))
      (mulf (mulf (ccol2 g) (dcol2 d)) (dcol2 d)))
    (mulf (broadcastInDim S8192x2048 ![] bcast_S_S8192x2048 (constant (F := Ideal) S_ .f32 0x40000000#32))
      (addf (addf (mulf (mulf (ccol3 g) (dcol0 d)) (dcol1 d)) (mulf (mulf (ccol4 g) (dcol1 d)) (dcol2 d)))
        (mulf (mulf (ccol5 g) (dcol0 d)) (dcol2 d))))

theorem form_apply (g : FVec Ideal S2048x6 .f32) (d : FVec Ideal S8192x2048x3 .f32) (n : Fin 8192) (m : Fin 2048) :
    form g d (ix2 n m) = power (fun k => g (ix2 m k)) fun k => d (ix3 n m k) := by
  pointwise [form]
  simp only [ccol0_apply, ccol1_apply, ccol2_apply, ccol3_apply, ccol4_apply, ccol5_apply, dcol0_apply, dcol1_apply,
    dcol2_apply]
  rfl

/-- The weights. -/
def weights (x0 : FVec Ideal S1x8192x3 .f32) (x1 : FVec Ideal S1x2048x3 .f32) (x2 : FVec Ideal S1x2048 .f32)
    (x4 : FVec Ideal S1x2048x3 .f32) (g : FVec Ideal S2048x6 .f32) : FVec Ideal S8192x2048 .f32 :=
  select (mask x0 x1 x4)
    (mulf (broadcastInDim S8192x2048 ![0, 1] bcast_S1x2048_S8192x2048_0_1 (broadcastInDim S1x2048 ![1]
        bcast_S2048_S1x2048_1 (shapeCast _ x2 shapeCasts_S1x2048_S2048)))
      (Host.exp (mulf (broadcastInDim S8192x2048 ![] bcast_S_S8192x2048 (constant (F := Ideal) S_ .f32 0xBF000000#32))
        (form g (diff x0 x1)))))
    (broadcastInDim S8192x2048 ![] bcast_S_S8192x2048 (constant (F := Ideal) S_ .f32 0x00000000#32))

theorem weights_apply (x0 : FVec Ideal S1x8192x3 .f32) (x1 : FVec Ideal S1x2048x3 .f32) (x2 : FVec Ideal S1x2048 .f32)
    (x4 : FVec Ideal S1x2048x3 .f32) (g : FVec Ideal S2048x6 .f32) (n : Fin 8192) (m : Fin 2048) :
    weights x0 x1 x2 x4 g (ix2 n m) = refWeight (fun k => x0 (ix3 0 n k)) (fun k => x1 (ix3 0 m k)) (x2 (ix2 0 m))
      (fun k => g (ix2 m k)) (fun k => x4 (ix3 0 m k)) := by
  pointwise [weights]
  rw [mask_apply, form_apply]
  simp only [diff_apply]
  rfl

/-- The weights times the semantics. -/
def total (w : FVec Ideal S8192x2048 .f32) (x3 : FVec Ideal S1x2048x18 .f32) : FVec Ideal S8192x18 .f32 :=
  Host.dotGeneral dot_S8192x2048_S2048x18_S8192x18_1_0_0_1_n_n none w (shapeCast _ x3 shapeCasts_S1x2048x18_S2048x18)

theorem total_apply (w : FVec Ideal S8192x2048 .f32) (x3 : FVec Ideal S1x2048x18 .f32) (n : Fin 8192) (j : Fin 18) :
    total w x3 (ix2 n j) = ∑ m : Fin 2048, w (ix2 n m) * x3 (ix3 0 m j) := by
  pointwise [total]

/-- The result as one function of the six arguments. -/
def result (x0 : FVec Ideal S1x8192x3 .f32) (x1 : FVec Ideal S1x2048x3 .f32) (x2 : FVec Ideal S1x2048 .f32)
    (x3 : FVec Ideal S1x2048x18 .f32) (x4 : FVec Ideal S1x2048x3 .f32) (x5 : FVec Ideal S1x2048x3x3 .f32) :
    FVec Ideal S8192x18 .f32 :=
  total (weights x0 x1 x2 x4 (entries x5)) x3

/-- WHAT THE REFERENCE COMPUTES at the point `n` and the column `j`. -/
theorem result_apply (x0 : FVec Ideal S1x8192x3 .f32) (x1 : FVec Ideal S1x2048x3 .f32) (x2 : FVec Ideal S1x2048 .f32)
    (x3 : FVec Ideal S1x2048x18 .f32) (x4 : FVec Ideal S1x2048x3 .f32) (x5 : FVec Ideal S1x2048x3x3 .f32)
    (n : Fin 8192) (j : Fin 18) :
    result x0 x1 x2 x3 x4 x5 (ix2 n j)
      = ∑ m : Fin 2048, refWeight (fun k => x0 (ix3 0 n k)) (fun k => x1 (ix3 0 m k)) (x2 (ix2 0 m))
          (fun k => entries x5 (ix2 m k)) (fun k => x4 (ix3 0 m k)) * x3 (ix3 0 m j) := by
  unfold result
  rw [total_apply]
  simp only [weights_apply]

/-- The term the reference's run leaves in its result is that function of the arguments' contents. -/
theorem res_eq (m : (ℓ : Loc nD τ sig) → Buf (Elt Ideal) ℓ) (c : Dev nD) :
    res_main_v104 m c = result (m ((c.tc : Thread nD τ).loc main_arg0)) (m ((c.tc : Thread nD τ).loc main_arg1))
      (m ((c.tc : Thread nD τ).loc main_arg2)) (m ((c.tc : Thread nD τ).loc main_arg3))
      (m ((c.tc : Thread nD τ).loc main_arg4)) (m ((c.tc : Thread nD τ).loc main_arg5)) := rfl

end Cert.Splat.Ref
-- ==== Proof.Domain.lean ====
module

public import proofs.«01_k».proof.Proof.Weight
public import proofs.«01_k».proof.Proof.Gen.Pre_in_domain
public import Idealize.ShloMosaic.Lib.ReduceAll
public import Idealize.ShloMosaic.Lib.WordArith
public import Idealize.ShloMosaic.Lib.Affine

/-! # What the precondition says of the arguments -/

@[expose] public section

noncomputable section

namespace Cert.Splat.Dom

open Cert.Pre_in_domain Idealize.ShloMosaic Idealize.ShloMosaic.WordArith

/-- An index type of rank zero has one element. -/
instance : Subsingleton S_.Idx := ⟨fun a b => funext fun k => k.elim0⟩

/-- A comparison whose one-bit word is 1 holds. -/
theorem holds {p : Prop} [Decidable p] (h : BitVec.ofBool (decide p) = 1#1) : p :=
  of_decide_eq_true ((ofBool_eq_one_iff _).1 h)

/-- A number strictly between the two infinities, as the precondition tests it, is finite. -/
theorem finite {x : EReal} (h : IntOp.andi (BitVec.ofBool (decide (Ideal.ofBits .f32 0xFF800000#32 < x)))
    (BitVec.ofBool (decide (x < Ideal.ofBits .f32 0x7F800000#32))) = 1#1) : ⊥ < x ∧ x < ⊤ := by
  obtain ⟨a, b⟩ := IntOp.andi_eq_one.1 h
  have a := holds a
  have b := holds b
  rw [lit_bot] at a
  rw [lit_top] at b
  exact ⟨a, b⟩

/-- THE PRECONDITION, read: every coordinate of a point lies in `[0, 1)`, the means and the covariances hold finite
numbers, and every opacity is at least the constant that stands for `1e-30`. -/
theorem decode [Facts] (x0 : FVec Ideal S1x8192x3 .f32) (x1 : FVec Ideal S1x2048x3 .f32) (x2 : FVec Ideal S1x2048 .f32)
    (x3 : FVec Ideal S1x2048x18 .f32) (x4 : FVec Ideal S1x2048x3 .f32) (x5 : FVec Ideal S1x2048x3x3 .f32)
    (h : fn x0 x1 x2 x3 x4 x5 = fun _ => 1#1) :
    (∀ i, (0 : EReal) ≤ x0 i ∧ x0 i < (1 : EReal)) ∧ (∀ i, ⊥ < x1 i ∧ x1 i < ⊤) ∧ (∀ i, ⊥ < x5 i ∧ x5 i < ⊤)
      ∧ ∀ i, floorOp ≤ x2 i := by
  have h := congrFun h (fun k => k.elim0)
  dsimp only [fn, fn_part1] at h
  obtain ⟨h, ho⟩ := IntOp.andi_eq_one.1 h
  obtain ⟨h, h5⟩ := IntOp.andi_eq_one.1 h
  obtain ⟨h0, h1⟩ := IntOp.andi_eq_one.1 h
  refine ⟨fun i => ?_, fun i => ?_, fun i => ?_, fun i => ?_⟩
  · obtain ⟨a, b⟩ := IntOp.andi_eq_one.1 (Host.reduce_andi_all _ _ _ _ _ h0 i)
    have a : Ideal.ofBits .f32 0x00000000#32 ≤ x0 i := holds a
    have b : x0 i < Ideal.ofBits .f32 0x3F800000#32 := holds b
    rw [lit_one, EReal.coe_one] at b
    rw [show Ideal.ofBits .f32 0x00000000#32 = (0 : EReal) by simp [Ideal.ofBits, Ideal.ieee]] at a
    exact ⟨a, b⟩
  · exact finite (Host.reduce_andi_all _ _ _ _ _ h1 i)
  · exact finite (Host.reduce_andi_all _ _ _ _ _ h5 i)
  · exact holds (Host.reduce_andi_all _ _ _ _ _ ho i)

end Cert.Splat.Dom
-- ==== Proof.Equation.lean ====
module

public import proofs.«01_k».proof.Proof.KArray
public import proofs.«01_k».proof.Proof.RefVal
public import proofs.«01_k».proof.Proof.Domain
public import proofs.«01_k».proof.Defs

/-! # The equation between the kernel's array and the reference's

Both are sums over the same Gaussians, so they agree once the two weights agree at every point and Gaussian; that is
`weight_eq`, and the precondition supplies its hypotheses. -/

@[expose] public section

noncomputable section

namespace Cert.Splat

open Idealize.ShloMosaic

/-- The positions that the kernel gathers, as it computes them from its literal table. -/
def kerPos : IVec Cert.KernelIdeal.S6 32 :=
  select (constantI Cert.KernelIdeal.S6 1 0#1)
    (addi ((fun i => Cert.KernelIdeal.lit0 (Cert.KernelIdeal.S6.rowMajor i)))
      (broadcastInDim Cert.KernelIdeal.S6 ![] Cert.KernelIdeal.Gen.bcast_S_S6 (constantI Cert.KernelIdeal.S_ 32 9#32)))
    ((fun i => Cert.KernelIdeal.lit0 (Cert.KernelIdeal.S6.rowMajor i)))

/-- The positions that the reference gathers, as it computes them from its literal table. -/
def refPos : IVec Cert.ReferenceIdeal.S6 32 :=
  select (cmpi .slt ((fun i => Cert.ReferenceIdeal.lit1 (Cert.ReferenceIdeal.S6.rowMajor i)))
      (broadcastInDim Cert.ReferenceIdeal.S6 ![] Cert.ReferenceIdeal.Gen.bcast_S_S6 (constantI Cert.ReferenceIdeal.S_ 32 0#32)))
    (addi ((fun i => Cert.ReferenceIdeal.lit1 (Cert.ReferenceIdeal.S6.rowMajor i)))
      (broadcastInDim Cert.ReferenceIdeal.S6 ![] Cert.ReferenceIdeal.Gen.bcast_S_S6 (constantI Cert.ReferenceIdeal.S_ 32 9#32)))
    ((fun i => Cert.ReferenceIdeal.lit1 (Cert.ReferenceIdeal.S6.rowMajor i)))

/-- Both programs gather the same six positions. -/
theorem pos_eq : kerPos = refPos := by
  funext i
  obtain ⟨k, rfl⟩ : ∃ k : Fin 6, i = ix1 k := ⟨i 0, eq_ix1 i⟩
  revert k
  decide +kernel

/-- Both programs gather the same six entries of the covariances. -/
theorem entries_eq (x5 : FVec Ideal Cert.KernelIdeal.S1x2048x3x3 .f32) : entries x5 = Ref.entries x5 := by
  have h := pos_eq
  unfold entries Ref.entries
  exact congrArg (fun p => Host.gather _ _ (broadcastInDim _ _ _ p)) h

/-- A finite extended real is a real. -/
theorem real_of {x : EReal} (h : ⊥ < x ∧ x < ⊤) : ∃ r : ℝ, x = (r : EReal) :=
  ⟨x.toReal, (EReal.coe_toReal h.2.ne h.1.ne').symm⟩

/-- UNDER THE PRECONDITION the kernel's sum and the reference's have equal terms. -/
theorem term_eq (p q : Fin 3 → EReal) (o : EReal) (g : Fin 6 → EReal) (s : Fin 3 → EReal)
    (hp : ∀ k, (0 : EReal) ≤ p k ∧ p k < 1) (hq : ∀ k, ⊥ < q k ∧ q k < ⊤) (hg : ∀ k, ⊥ < g k ∧ g k < ⊤)
    (ho : floorOp ≤ o) : kerWeight p q o g s = refWeight p q o g s := by
  have hp' : ∀ k, ∃ r : ℝ, p k = (r : EReal) := fun k =>
    real_of ⟨lt_of_lt_of_le EReal.bot_lt_zero (hp k).1, (hp k).2.trans (EReal.coe_lt_top 1)⟩
  choose p' ep using hp'
  choose q' eq using fun k => real_of (hq k)
  choose g' eg using fun k => real_of (hg k)
  obtain rfl : p = fun k => (p' k : EReal) := funext ep
  obtain rfl : q = fun k => (q' k : EReal) := funext eq
  obtain rfl : g = fun k => (g' k : EReal) := funext eg
  exact weight_eq p' q' (fun k => EReal.coe_nonneg.1 (hp k).1)
    (fun k => EReal.coe_lt_coe_iff.1 ((hp k).2.trans_eq EReal.coe_one.symm)) o ho g' s

/-- THE EQUATION: under the precondition the kernel's array is the reference's result on the same arguments. -/
theorem array_eq (m : (ℓ : Loc Cert.KernelIdeal.nD Cert.KernelIdeal.τ Cert.KernelIdeal.sig) → Buf (Elt Ideal) ℓ)
    (h : Pre_KernelIdeal_in_domain m) (c : Dev Cert.KernelIdeal.nD) :
    (fun i : Cert.KernelIdeal.S8192x18.Idx => kerAt m c (i 0) (i 1))
      = Ref.result (A0 m c) (A1 m c) (A2 m c) (A3 m c) (A4 m c) (A5 m c) := by
  obtain ⟨h0, h1, h5, h2⟩ := Dom.decode _ _ _ _ _ _ (h c)
  have key : ∀ (n : Fin 8192) (j : Fin 18), kerAt m c n j
      = Ref.result (A0 m c) (A1 m c) (A2 m c) (A3 m c) (A4 m c) (A5 m c) (ix2 n j) := by
    intro n j
    rw [Ref.result_apply]
    unfold kerAt
    refine Finset.sum_congr rfl fun g _ => ?_
    rw [← entries_eq, term_eq _ _ _ _ _ (fun k => h0 _) (fun k => h1 _) (fun k => ?_) (h2 _)]
    obtain ⟨i, e⟩ := entries_mem (A5 m c) (ix2 g k)
    rw [e]
    exact h5 i
  funext i
  exact (key (i 0) (i 1)).trans (congrArg _ (eq_ix2 i).symm)

end Cert.Splat
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_in_domain
public import proofs.«01_k».proof.Proof.Gen.KernelIdeal.Value
public import proofs.«01_k».proof.Proof.Gen.ReferenceIdeal.Run
public import proofs.«01_k».proof.Proof.Equation
public import Idealize.ShloMosaic.Lib.Claim
public import Idealize.ShloMosaic.Adequacy
public import Idealize.ShloMosaic.Init

@[expose] public section

noncomputable section

namespace Cert.Proof

open Idealize.ShloMosaic Idealize.SL.Sem Cert.Kernel

/-- The reference runs from every memory, leaves its arguments unchanged and ends with every semaphore at zero. -/
theorem reference_frame : Cert.quiescent_ReferenceIdeal := by
  intro m g _
  exact θ_run_mono (Cert.ReferenceIdeal.Value.run m g) fun r h =>
    ⟨fun c => (h c).2, sem_eq_zero_of_no_sems (by decide) r.2⟩

/-- The same, from a memory that meets the precondition. -/
theorem reference_frame_pre : Cert.quiescent_ReferenceIdeal_pre_in_domain := fun m g _ => reference_frame m g trivial

/-- Each constant that the idealized kernel names stands for the word that the kernel has in its place. -/
theorem preserves : Cert.preserves_Kernel_KernelIdeal :=
  ⟨IdealRules.named_const.statement Cert.KernelIdeal.κ "mask" .f32 0xF149F2CA#32 _ rfl,
    IdealRules.named_const.statement Cert.KernelIdeal.κ "log2e" .f32 0x3FB8AA3B#32 _ rfl,
    IdealRules.named_const.statement Cert.KernelIdeal.κ "neg_half_log2e" .f32 0xBF38AA3B#32 _ rfl,
    IdealRules.named_const.statement Cert.KernelIdeal.κ "neg_log2e" .f32 0xBFB8AA3B#32 _ rfl⟩

/-- The array that the idealized kernel writes is the reference's result, when the arguments agree and meet the
precondition: `final` says what the array holds, `array_eq` that it is the reference's term. -/
theorem algebraic : Cert.algebraic_KernelIdeal_ReferenceIdeal_pre_in_domain := by
  intro m g m' g' hpre hagree
  refine ⟨fun c => (Cert.KernelIdeal.Gen.dats m 0 c).arrAt 6 Cert.KernelIdeal.cfg0.N,
    Cert.KernelIdeal.Value.run_blocks m g, ?_⟩
  refine θ_run_mono (Cert.ReferenceIdeal.Value.run m' g') fun r hr c => ?_
  obtain ⟨hv, hargs⟩ := hr c
  refine ⟨hv.trans ?_, hargs⟩
  obtain ⟨h0, h1, h2, h3, h4, h5⟩ := hagree c
  refine (Cert.Splat.Ref.res_eq m' c).trans ?_
  rw [h0, h1, h2, h3, h4, h5]
  exact ((Cert.Splat.final m c).trans (Cert.Splat.array_eq m hpre c)).symm

/-- EVERY CLAIM: the frames of the kernel, of its idealization and of the reference, the named constants, and the
equality of the idealized kernel's result with the reference's. -/
theorem claim : Cert.Claim := ⟨Cert.Kernel.Gen.facts, Cert.KernelIdeal.Gen.facts, Cert.ReferenceIdeal.Gen.facts,
  Cert.Pre_in_domain.Gen.facts,
  fun m ρ _ => Cert.Kernel.Gen.frame m ρ,
  fun m ρ _ => Cert.KernelIdeal.Gen.frame m ρ,
  fun m ρ _ => Cert.KernelIdeal.Gen.frame m ρ,
  reference_frame, reference_frame_pre, preserves, algebraic⟩

end Cert.Proof

end
